-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S_ : Shape := ⟨0, ![]⟩
abbrev S4096x512 : Shape := ⟨2, ![4096, 512]⟩
abbrev S15x256x512 : Shape := ⟨3, ![15, 256, 512]⟩
abbrev S16x256x512 : Shape := ⟨3, ![16, 256, 512]⟩
abbrev S15 : Shape := ⟨1, ![15]⟩
abbrev S256x512 : Shape := ⟨2, ![256, 512]⟩
abbrev S1x256x512 : Shape := ⟨3, ![1, 256, 512]⟩

abbrev nBuf : Space → Nat
  | .hbm => 11
  | .vmem => 7
  | .smem => 3
  | _ => 0

abbrev bufTy : (tb : Table) → Fin (tcTables nBuf tb) → BufTy
  | .hbm, ⟨0, _⟩ => ⟨S256x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096x512, .f32⟩
  | .local _ .vmem, ⟨0, _⟩ => ⟨S256x4096, .fp8e4m3⟩
  | .local _ .vmem, ⟨1, _⟩ => ⟨S4096x512, .fp8e5m2⟩
  | .local _ .vmem, ⟨2, _⟩ => ⟨S4096x512, .fp8e5m2⟩
  | .local _ .vmem, ⟨3, _⟩ => ⟨S4096x512, .f32⟩
  | .local _ .vmem, ⟨4, _⟩ => ⟨S256x4096, .bf16⟩
  | .local _ .vmem, ⟨5, _⟩ => ⟨S15x256x512, .bf16⟩
  | .local _ .vmem, ⟨6, _⟩ => ⟨S16x256x512, .bf16⟩
  | .local _ .smem, ⟨0, _⟩ => ⟨S1, .i32⟩
  | .local _ .smem, ⟨1, _⟩ => ⟨S1, .f32⟩
  | .local _ .smem, ⟨2, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_1 : BitVec 32 := 0#32
  let v13 : BitVec 1 := Scalar.cmpi .eq arg0 c0_i32_1
  let v14 : BitVec 32 := Scalar.extui v13
  let c0_i32_2 : BitVec 32 := 0#32
  let v15 : BitVec 1 := Scalar.cmpi .ne v14 c0_i32_2
  v15

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v39 : BitVec 32 := Scalar.xori v2 c1_i32_15
  let c1_i32_17 : BitVec 32 := 1#32
  let v40 : BitVec 32 := Scalar.muli v39 c1_i32_17
  let v41 : BitVec 32 := Scalar.addi c0_i32_18 v40
  v41.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v42 : BitVec 32 := Scalar.xori v2 c2_i32
  let c1_i32_20 : BitVec 32 := 1#32
  let v43 : BitVec 32 := Scalar.muli v42 c1_i32_20
  let v44 : BitVec 32 := Scalar.addi c0_i32_21 v43
  v44.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v45 : BitVec 32 := Scalar.xori v2 c3_i32
  let c1_i32_23 : BitVec 32 := 1#32
  let v46 : BitVec 32 := Scalar.muli v45 c1_i32_23
  let v47 : BitVec 32 := Scalar.addi c0_i32_24 v46
  v47.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_25 : BitVec 32 := 4#32
  let v48 : BitVec 32 := Scalar.xori v2 c4_i32_25
  let c1_i32_27 : BitVec 32 := 1#32
  let v49 : BitVec 32 := Scalar.muli v48 c1_i32_27
  let v50 : BitVec 32 := Scalar.addi c0_i32_28 v49
  v50.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v51 : BitVec 32 := Scalar.xori v2 c5_i32
  let c1_i32_30 : BitVec 32 := 1#32
  let v52 : BitVec 32 := Scalar.muli v51 c1_i32_30
  let v53 : BitVec 32 := Scalar.addi c0_i32_31 v52
  v53.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v54 : BitVec 32 := Scalar.xori v2 c6_i32
  let c1_i32_33 : BitVec 32 := 1#32
  let v55 : BitVec 32 := Scalar.muli v54 c1_i32_33
  let v56 : BitVec 32 := Scalar.addi c0_i32_34 v55
  v56.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_35 : BitVec 32 := 7#32
  let v57 : BitVec 32 := Scalar.xori v2 c7_i32_35
  let c1_i32_37 : BitVec 32 := 1#32
  let v58 : BitVec 32 := Scalar.muli v57 c1_i32_37
  let v59 : BitVec 32 := Scalar.addi c0_i32_38 v58
  v59.toNat
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_39 : BitVec 32 := 8#32
  let v60 : BitVec 32 := Scalar.xori v2 c8_i32_39
  let c1_i32_41 : BitVec 32 := 1#32
  let v61 : BitVec 32 := Scalar.muli v60 c1_i32_41
  let v62 : BitVec 32 := Scalar.addi c0_i32_42 v61
  v62.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v63 : BitVec 32 := Scalar.xori v2 c9_i32
  let c1_i32_44 : BitVec 32 := 1#32
  let v64 : BitVec 32 := Scalar.muli v63 c1_i32_44
  let v65 : BitVec 32 := Scalar.addi c0_i32_45 v64
  v65.toNat
def k0_dev10 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v66 : BitVec 32 := Scalar.xori v2 c10_i32
  let c1_i32_47 : BitVec 32 := 1#32
  let v67 : BitVec 32 := Scalar.muli v66 c1_i32_47
  let v68 : BitVec 32 := Scalar.addi c0_i32_48 v67
  v68.toNat
def k0_dev11 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_49 : BitVec 32 := 11#32
  let v69 : BitVec 32 := Scalar.xori v2 c11_i32_49
  let c1_i32_51 : BitVec 32 := 1#32
  let v70 : BitVec 32 := Scalar.muli v69 c1_i32_51
  let v71 : BitVec 32 := Scalar.addi c0_i32_52 v70
  v71.toNat
def k0_dev12 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v72 : BitVec 32 := Scalar.xori v2 c12_i32
  let c1_i32_54 : BitVec 32 := 1#32
  let v73 : BitVec 32 := Scalar.muli v72 c1_i32_54
  let v74 : BitVec 32 := Scalar.addi c0_i32_55 v73
  v74.toNat
def k0_dev13 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v75 : BitVec 32 := Scalar.xori v2 c13_i32
  let c1_i32_57 : BitVec 32 := 1#32
  let v76 : BitVec 32 := Scalar.muli v75 c1_i32_57
  let v77 : BitVec 32 := Scalar.addi c0_i32_58 v76
  v77.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_59 : BitVec 32 := 14#32
  let v78 : BitVec 32 := Scalar.xori v2 c14_i32_59
  let c1_i32_61 : BitVec 32 := 1#32
  let v79 : BitVec 32 := Scalar.muli v78 c1_i32_61
  let v80 : BitVec 32 := Scalar.addi c0_i32_62 v79
  v80.toNat
def k0_dev15 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_63 : BitVec 32 := 15#32
  let v81 : BitVec 32 := Scalar.xori v2 c15_i32_63
  let c1_i32_65 : BitVec 32 := 1#32
  let v82 : BitVec 32 := Scalar.muli v81 c1_i32_65
  let v83 : BitVec 32 := Scalar.addi c0_i32_66 v82
  v83.toNat
def k0_cond3 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_10 : BitVec 32 := 0#32
  let v31 : BitVec 1 := Scalar.cmpi .ne v30 c0_i32_10
  v31

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v39 : Index := Scalar.indexCast v2
  let c0_15 : Index := 0#32
  let c0_16 : Index := 0#32
  ![v39.toNat, 0, 0]
def k0_cond4 (i : grid0.Coords) : BitVec 1 :=
  let arg0 : BitVec 32 := BitVec.ofNat 32 (i 0).val
  let c15_i32_11 : BitVec 32 := 15#32
  let v32 : BitVec 1 := Scalar.cmpi .slt arg0 c15_i32_11
  let v33 : BitVec 32 := Scalar.extui v32
  let c0_i32_12 : BitVec 32 := 0#32
  let v34 : BitVec 1 := Scalar.cmpi .ne v33 c0_i32_12
  v34

def k0_off2 (i : grid0.Coords) : Fin 3 → Nat :=
  let arg0 : BitVec 32 := BitVec.ofNat 32 (i 0).val
  let v39 : Index := Scalar.indexCast arg0
  let c0_15 : Index := 0#32
  let c0_16 : Index := 0#32
  ![v39.toNat, 0, 0]
def k0_off3 (i : grid0.Coords) : Fin 1 → Nat :=
  let arg0 : BitVec 32 := BitVec.ofNat 32 (i 0).val
  ![arg0.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let c0_i32_20 : BitVec 32 := 0#32
  ![v2.toNat, 0, 0]
def k0_off5 (i : grid0.Coords) : Fin 3 → Nat :=
  let arg0 : BitVec 32 := BitVec.ofNat 32 (i 0).val
  let c0_i32_21 : BitVec 32 := 0#32
  let c0_i32_22 : BitVec 32 := 0#32
  ![arg0.toNat, 0, 0]
def k0_dev16 (i : grid0.Coords) (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let c7_i32 : BitVec 32 := 7#32
  let v3 : BitVec 1 := Scalar.cmpi .sle arg0 c7_i32
  let c8_i32 : BitVec 32 := 8#32
  let v4 : BitVec 32 := Scalar.addi arg0 c8_i32
  let c11_i32 : BitVec 32 := 11#32
  let v5 : BitVec 1 := Scalar.cmpi .sle arg0 c11_i32
  let c4_i32 : BitVec 32 := 4#32
  let v6 : BitVec 32 := Scalar.subi arg0 c4_i32
  let c14_i32 : BitVec 32 := 14#32
  let v7 : BitVec 1 := Scalar.cmpi .sle arg0 c14_i32
  let c11_i32_0 : BitVec 32 := 11#32
  let v8 : BitVec 32 := Scalar.subi arg0 c11_i32_0
  let c0_i32 : BitVec 32 := 0#32
  let v9 : BitVec 32 := Scalar.select v7 v8 c0_i32
  let v10 : BitVec 32 := Scalar.select v5 v6 v9
  let v11 : BitVec 32 := Scalar.select v3 v4 v10
  let v12 : BitVec 32 := Scalar.xori v2 v11
  let c1_i32_17 : BitVec 32 := 1#32
  let v43 : BitVec 32 := Scalar.muli v12 c1_i32_17
  let v44 : BitVec 32 := Scalar.addi c0_i32_18 v43
  v44.toNat
def k0_cond5 (i : grid0.Coords) : BitVec 1 :=
  let arg0 : BitVec 32 := BitVec.ofNat 32 (i 0).val
  let c15_i32_13 : BitVec 32 := 15#32
  let v35 : BitVec 1 := Scalar.cmpi .eq arg0 c15_i32_13
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 1 := Scalar.cmpi .sle arg0 c7_i32
  let c8_i32 : BitVec 32 := 8#32
  let v2 : BitVec 32 := Scalar.addi arg0 c8_i32
  let c11_i32 : BitVec 32 := 11#32
  let v3 : BitVec 1 := Scalar.cmpi .sle arg0 c11_i32
  let c4_i32 : BitVec 32 := 4#32
  let v4 : BitVec 32 := Scalar.subi arg0 c4_i32
  let c14_i32 : BitVec 32 := 14#32
  let v5 : BitVec 1 := Scalar.cmpi .sle arg0 c14_i32
  let c11_i32_0 : BitVec 32 := 11#32
  let v6 : BitVec 32 := Scalar.subi arg0 c11_i32_0
  let c0_i32 : BitVec 32 := 0#32
  let v7 : BitVec 32 := Scalar.select v5 v6 c0_i32
  let v8 : BitVec 32 := Scalar.select v3 v4 v7
  let v9 : BitVec 32 := Scalar.select v1 v2 v8
  let v10 : BitVec 32 := Scalar.xori v0 v9
  let c0_i32_1 : BitVec 32 := 0#32
  let c0_i32_2 : BitVec 32 := 0#32
  ![c0_i32_1.toNat, v10.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Peers.lean ====
/- The sixteen devices and how they are paired: which device a step of the kernel sends to, which device each of the
   fifteen entry signals goes to, and which elements of the two exchange buffers a slot is. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Exchange

open Idealize.ShloMosaic Idealize.ShloMosaic.TcCoe
open Cert.KernelIdeal.Gen

/-! ## Devices -/

/-- The device whose number differs from `c`'s by the exclusive or with `n`. -/
def peer (c : Dev nD) (n : ℕ) : Dev nD := ⟨(c.val ^^^ n) % 16, Nat.mod_lt _ (by decide)⟩

/-- The exclusive-or offset of step `n`: the far half of the devices first, the own block last. -/
def stepOff (n : ℕ) : ℕ := if n ≤ 7 then n + 8 else if n ≤ 11 then n - 4 else if n ≤ 14 then n - 11 else 0

/-- The device whose column block step `n` computes on device `c`. -/
def tgt (c : Dev nD) (n : ℕ) : Dev nD := peer c (stepOff n)

theorem peer_ne (c : Dev nD) : ∀ n ∈ Finset.Ico 1 16, peer c n ≠ c := by revert c; decide +kernel
theorem tgt_ne (c : Dev nD) : ∀ n ∈ Finset.Ico 0 15, tgt c n ≠ c := by revert c; decide +kernel
theorem tgt_last (c : Dev nD) : tgt c 15 = c := by revert c; decide +kernel
theorem peer_image (c : Dev nD) : (Finset.Ico 1 16).image (peer c) = Finset.univ.erase c := by revert c; decide +kernel
theorem tgt_image (c : Dev nD) : (Finset.Ico 0 15).image (tgt c) = Finset.univ.erase c := by revert c; decide +kernel
theorem peer_injOn (c : Dev nD) : Set.InjOn (peer c) (Finset.Ico 1 16 : Finset ℕ) := by
  have h : ∀ c : Dev nD, ∀ a ∈ Finset.Ico 1 16, ∀ b ∈ Finset.Ico 1 16, peer c a = peer c b → a = b := by decide +kernel
  exact fun a ha b hb e => h c a ha b hb e
theorem tgt_injOn (c : Dev nD) : Set.InjOn (tgt c) (Finset.Ico 0 15 : Finset ℕ) := by
  have h : ∀ c : Dev nD, ∀ a ∈ Finset.Ico 0 15, ∀ b ∈ Finset.Ico 0 15, tgt c a = tgt c b → a = b := by decide +kernel
  exact fun a ha b hb e => h c a ha b hb e
/-- Pairing is symmetric. -/
theorem peer_peer (c : Dev nD) : ∀ n ∈ Finset.Ico 0 16, peer (peer c n) n = c := by revert c; decide +kernel
theorem tgt_tgt (c : Dev nD) : ∀ n ∈ Finset.Ico 0 16, tgt (tgt c n) n = c := by revert c; decide +kernel

/-- The first number of a range, taken off. -/
theorem Ico_step {n m : ℕ} (h : n < m) : Finset.Ico n m = insert n (Finset.Ico (n + 1) m) := by
  ext k; simp only [Finset.mem_Ico, Finset.mem_insert]; omega
theorem Ico_step_notMem {n m : ℕ} : n ∉ Finset.Ico (n + 1) m := by simp only [Finset.mem_Ico]; omega

/-- The fifteen devices of the entry signals, in the order the kernel signals them. -/
def signalled (c : Dev nD) : List (Dev nD) := (List.range' 1 15).map (peer c)

theorem dev16_eq : ∀ (i : grid0.Coords) (d : Dev nD), k0_dev16 i d = (tgt d (i 0).val).val := by decide +kernel

/-! ## The slots of the exchange buffers

Slot `n` of the send buffer is what step `n` writes and copies out; slot `n` of the receive buffer is where the
block computed by device `n` lands. -/

abbrev BufY : Type := S15x256x512.Idx
abbrev BufR : Type := S16x256x512.Idx

def ySlot (n : ℕ) : Finset S15x256x512.Idx := Finset.univ.filter fun x => (x 0).val = n
def rSlot (n : ℕ) : Finset S16x256x512.Idx := Finset.univ.filter fun x => (x 0).val = n

theorem mem_ySlot {n : ℕ} {x : S15x256x512.Idx} : x ∈ ySlot n ↔ (x 0).val = n := by simp [ySlot]
theorem mem_rSlot {n : ℕ} {x : S16x256x512.Idx} : x ∈ rSlot n ↔ (x 0).val = n := by simp [rSlot]

theorem ySlot_disjoint (a b : ℕ) (h : a ≠ b) : Disjoint (ySlot a) (ySlot b) :=
  Finset.disjoint_left.mpr fun _ ha hb => h ((mem_ySlot.mp ha).symm.trans (mem_ySlot.mp hb))
theorem rSlot_disjoint (a b : ℕ) (h : a ≠ b) : Disjoint (rSlot a) (rSlot b) :=
  Finset.disjoint_left.mpr fun _ ha hb => h ((mem_rSlot.mp ha).symm.trans (mem_rSlot.mp hb))

theorem ySlot_cover : (Finset.Ico 0 15).biUnion ySlot = Finset.univ := by
  ext x; simp only [Finset.mem_biUnion, Finset.mem_univ, iff_true]
  exact ⟨(x 0).val, Finset.mem_Ico.mpr ⟨Nat.zero_le _, (x 0).isLt⟩, mem_ySlot.mpr rfl⟩
theorem rSlot_cover : (Finset.univ : Finset (Dev nD)).biUnion (fun d => rSlot d.val) = Finset.univ := by
  ext x; simp only [Finset.mem_biUnion, Finset.mem_univ, iff_true]
  exact ⟨⟨(x 0).val, (x 0).isLt⟩, trivial, mem_rSlot.mpr rfl⟩

/-- The position inside a slot. -/
def inY (x : S15x256x512.Idx) : S1x256x512.Idx := fun | 0 => ⟨0, by decide⟩ | 1 => x 1 | 2 => x 2
def inR (x : S16x256x512.Idx) : S1x256x512.Idx := fun | 0 => ⟨0, by decide⟩ | 1 => x 1 | 2 => x 2

theorem inbY : ∀ n, n < 15 → ∀ a, (![n, 0, 0] : Fin 3 → ℕ) a + S1x256x512.size a ≤ S15x256x512.size a := by decide +kernel
theorem inbR : ∀ n, n < 16 → ∀ a, (![n, 0, 0] : Fin 3 → ℕ) a + S1x256x512.size a ≤ S16x256x512.size a := by decide +kernel
theorem inbS : ∀ n, n < 15 → ∀ a, (![n] : Fin 1 → ℕ) a + S1.size a ≤ S15.size a := by decide +kernel

/-- The rectangle of slot `n`. -/
abbrev rectY (n : ℕ) (h : n < 15) : Rect S15x256x512 := Rect.unit ![n, 0, 0] S1x256x512.size (inbY n h)
abbrev rectR (n : ℕ) (h : n < 16) : Rect S16x256x512 := Rect.unit ![n, 0, 0] S1x256x512.size (inbR n h)

theorem rectY_zero (n : ℕ) (h : n < 15) (j : S1x256x512.Idx) : ((rectY n h).emb j 0).val = n := by
  have h0 : (j 0).val < 1 := (j 0).isLt
  show n + 1 * (j 0).val = n
  omega
theorem rectR_zero (n : ℕ) (h : n < 16) (j : S1x256x512.Idx) : ((rectR n h).emb j 0).val = n := by
  have h0 : (j 0).val < 1 := (j 0).isLt
  show n + 1 * (j 0).val = n
  omega
theorem inY_emb (n : ℕ) (h : n < 15) (j : S1x256x512.Idx) : inY ((rectY n h).emb j) = j := by
  funext a
  match a with
  | 0 => exact Fin.ext (by have h0 : (j 0).val < 1 := (j 0).isLt; show 0 = (j 0).val; omega)
  | 1 => exact Fin.ext (by show 0 + 1 * (j 1).val = (j 1).val; omega)
  | 2 => exact Fin.ext (by show 0 + 1 * (j 2).val = (j 2).val; omega)
theorem inR_emb (n : ℕ) (h : n < 16) (j : S1x256x512.Idx) : inR ((rectR n h).emb j) = j := by
  funext a
  match a with
  | 0 => exact Fin.ext (by have h0 : (j 0).val < 1 := (j 0).isLt; show 0 = (j 0).val; omega)
  | 1 => exact Fin.ext (by show 0 + 1 * (j 1).val = (j 1).val; omega)
  | 2 => exact Fin.ext (by show 0 + 1 * (j 2).val = (j 2).val; omega)

theorem emb_inY (n : ℕ) (h : n < 15) (x : S15x256x512.Idx) (hx : (x 0).val = n) : (rectY n h).emb (inY x) = x := by
  funext a
  match a with
  | 0 => exact Fin.ext (by show n + 1 * 0 = (x 0).val; omega)
  | 1 => exact Fin.ext (by show 0 + 1 * (x 1).val = (x 1).val; omega)
  | 2 => exact Fin.ext (by show 0 + 1 * (x 2).val = (x 2).val; omega)
theorem emb_inR (n : ℕ) (h : n < 16) (x : S16x256x512.Idx) (hx : (x 0).val = n) : (rectR n h).emb (inR x) = x := by
  funext a
  match a with
  | 0 => exact Fin.ext (by show n + 1 * 0 = (x 0).val; omega)
  | 1 => exact Fin.ext (by show 0 + 1 * (x 1).val = (x 1).val; omega)
  | 2 => exact Fin.ext (by show 0 + 1 * (x 2).val = (x 2).val; omega)

theorem rectY_set (n : ℕ) (h : n < 15) : (rectY n h).set = ySlot n := by
  ext x
  rw [← Rect.map_emb_univ, Finset.mem_map, mem_ySlot]
  exact ⟨fun ⟨j, _, e⟩ => e ▸ rectY_zero n h j, fun hx => ⟨inY x, Finset.mem_univ _, emb_inY n h x hx⟩⟩
theorem rectR_set (n : ℕ) (h : n < 16) : (rectR n h).set = rSlot n := by
  ext x
  rw [← Rect.map_emb_univ, Finset.mem_map, mem_rSlot]
  exact ⟨fun ⟨j, _, e⟩ => e ▸ rectR_zero n h j, fun hx => ⟨inR x, Finset.mem_univ _, emb_inR n h x hx⟩⟩

/-! ## The slots as the kernel addresses them -/

abbrev yM : Memref sig .tc .vmem S15x256x512 .bf16 := Memref.whole cc0_scratch1
abbrev rM : Memref sig .tc .vmem S16x256x512 .bf16 := Memref.whole cc0_scratch2

/-- The source of the copy of step `n`, and the landing place of what device `n` sends. -/
abbrev yPart (n : ℕ) (h : n < 15) : Memref sig .tc .vmem S256x512 .bf16 :=
  (yM.slice (rectY n h) (fun _ => rfl)).squeeze S256x512 squeezes_S1x256x512_S256x512
abbrev rPart (n : ℕ) (h : n < 16) : Memref sig .tc .vmem S256x512 .bf16 :=
  (rM.slice (rectR n h) (fun _ => rfl)).squeeze S256x512 squeezes_S1x256x512_S256x512

theorem yPart_set (n : ℕ) (h : n < 15) : (yPart n h).view.set = ySlot n := by
  rw [Memref.set_view_squeeze]
  exact (View.set_slice_whole cc0_scratch1 (rectY n h)).trans (rectY_set n h)
theorem rPart_set (n : ℕ) (h : n < 16) : (rPart n h).view.set = rSlot n := by
  rw [Memref.set_view_squeeze]
  exact (View.set_slice_whole cc0_scratch2 (rectR n h)).trans (rectR_set n h)

abbrev barS : Sem sig := barrier0
abbrev recvS : DmaSem sig := ⟨21, by decide⟩
/-- The semaphore of the copy of step `n`. -/
def sendS (n : ℕ) : DmaSem sig := ⟨6 + n % 15, by have := Nat.mod_lt n (show 15 > 0 by decide); show 6 + n % 15 < 22; omega⟩

theorem sendS_val (n : ℕ) (h : n < 15) : (sendS n).val = 6 + n := by show 6 + n % 15 = _; rw [Nat.mod_eq_of_lt h]

theorem sendS_eq : ∀ n (h : n < 15),
    ((cc0_scratch3.slice (Rect.unit (s := S15) ![n] S1.size (inbS n h))).squeeze S_ squeezes_S1_S_).sem = sendS n := by
  have h : ∀ n : Fin 15, ((cc0_scratch3.slice (Rect.unit (s := S15) ![n.val] S1.size (inbS n.val n.isLt))).squeeze S_ squeezes_S1_S_).sem = sendS n.val := by
    decide +kernel
  exact fun n hn => h ⟨n, hn⟩

end Cert.KernelIdeal.Exchange

end
-- ==== Proof.Protocol.lean ====
/- The exchange protocol, semaphore by semaphore.

   * The barrier semaphore of device `c` (one round, fifteen units). Device `d` signals it once, at its first step, and
     hands over the slot of its receive buffer that `c` writes (slot number `c`), contents arbitrary, and the fact that
     its receive semaphore is in its first round. Device `c` waits for all fifteen before its first copy.
   * The receive semaphore of device `c` (one round, fifteen transfers). The copy of device `d` credits it with one
     block, and hands over slot `d` of `c`'s receive buffer at the block that `d` computed for `c`. Device `c` waits one
     block fifteen times, at its last step.
   * The send semaphore of step `n` of device `c` (one round, one transfer): `c`'s own copy; it hands back slot `n` of
     the send buffer. Device `c` waits for it at its last step. -/
module

public import proofs.«01_k».proof.Proof.Peers
public import Idealize.ShloMosaic.Lib.Pipeline.Regions
public import Idealize.ShloMosaic.Lib.Pipeline.Kit
public import Idealize.ShloMosaic.Lib.Rounds
public import Idealize.ShloMosaic.Lib.StableHlo
public import Idealize.ShloMosaic.PureOps
public import Idealize.ShloMosaic.Harness.Basic

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- The pipeline library's share of the ghost state, and the exchange protocol's; a duty is named by the device that
    performs it. -/
abbrev UU : Type := UR sig nD τ × URounds (GSem nD τ sig) (Dev nD)

variable {F : FTy → Type}

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Semaphores and credits -/

abbrev barCell (c : Dev nD) : GSem nD τ sig := ((c : Thread nD τ), .reg barS)
abbrev recvCell (c : Dev nD) : GSem nD τ sig := ((c : Thread nD τ), .dma recvS)
abbrev sendCell (c : Dev nD) (n : ℕ) : GSem nD τ sig := ((c : Thread nD τ), .dma (sendS n))

/-- What the copy of one block credits. -/
abbrev N : ℕ := (yPart 0 (by decide)).view.dmaCredit
theorem N_pos : 0 < N := View.dmaCredit_pos _ (by decide)
theorem yPart_credit (n : ℕ) (h : n < 15) : (yPart n h).view.dmaCredit = N := rfl
theorem rPart_credit (n : ℕ) (h : n < 16) : (rPart n h).view.dmaCredit = N := rfl

/-! ## Contents -/

/-- The blocks exchanged: `out s t` is what device `s` computes for device `t`. -/
abbrev Blocks (F : FTy → Type) : Type := Dev nD → Dev nD → FVec F S1x256x512 .bf16

/-- The receive buffer of device `c` once every block is there. -/
def landed (out : Blocks F) (c : Dev nD) : (⟨S16x256x512, .bf16⟩ : BufTy).Contents (Elt F) :=
  fun x => out ⟨(x 0).val, (x 0).isLt⟩ c (inR x)
/-- The send buffer of device `c` once every slot is written. -/
def staged (out : Blocks F) (c : Dev nD) : (⟨S15x256x512, .bf16⟩ : BufTy).Contents (Elt F) :=
  fun x => out c (tgt c (x 0).val) (inY x)

abbrev yLoc (c : Dev nD) : Loc nD τ sig := (c : Thread nD τ).loc cc0_scratch1
abbrev rLoc (c : Dev nD) : Loc nD τ sig := (c : Thread nD τ).loc cc0_scratch2

abbrev yPts (c : Dev nD) (n : ℕ) (f : Buf (Elt F) (yLoc c)) : sProp 𝕄 := yLoc c ↦[ySlot n]{fullShare} f
abbrev rPts (c : Dev nD) (n : ℕ) (f : Buf (Elt F) (rLoc c)) : sProp 𝕄 := rLoc c ↦[rSlot n]{fullShare} f

/-! ## The schedule -/

def barPay (c d : Dev nD) : sProp 𝕄 := iprop((∃ f, rPts d c.val f) ∗ reached ER (recvCell d) 0)
def recvPay (out : Blocks F) (c d : Dev nD) : sProp 𝕄 := rPts c d.val (landed out c)
def sendPay (c : Dev nD) (n : ℕ) : sProp 𝕄 := iprop(∃ f, yPts c n f)

/-- The devices that credit a semaphore of device `c`. -/
def payers (c : Dev nD) : SemLoc sig → Finset (Dev nD)
  | .reg s => if s = barS then Finset.univ.erase c else ∅
  | .dma s => if s.val = 21 then Finset.univ.erase c else if 6 ≤ s.val then {c} else ∅

def payload (out : Blocks F) (c : Dev nD) : SemLoc sig → Dev nD → sProp 𝕄
  | .reg _, d => barPay c d
  | .dma s, d => if s.val = 21 then recvPay out c d else sendPay c (s.val - 6)

def amountAt : SemLoc sig → ℕ
  | .reg _ => 1
  | .dma _ => N

def Rd (out : Blocks F) : Rounds.Schedule (GSem nD τ sig) (Dev nD) 𝕄 where
  duties g r := if r = 0 ∧ g.1.2 = .tc then payers g.1.1 g.2 else ∅
  unitless _ := False
  amount g _ _ := amountAt g.2
  payload g _ d := payload out g.1.1 g.2 d
  amount_pos g _ _ _ := by
    unfold amountAt
    cases g.2 with
    | reg _ => exact Nat.one_pos
    | dma _ => exact N_pos

instance Rd_storable (out : Blocks F) (g : GSem nD τ sig) (r : ℕ) (d : Dev nD) :
    BI.Storable (upEmb : UEmb _ 𝕄) ((Rd out).payload g r d) := by
  show BI.Storable upEmb (payload out g.1.1 g.2 d)
  unfold payload barPay recvPay sendPay
  cases g.2 with
  | reg _ => dsimp only; infer_instance
  | dma s => dsimp only; split <;> infer_instance

section Tables

variable (out : Blocks F) (c : Dev nD)

theorem duties_bar : (Rd out).duties (barCell c) 0 = Finset.univ.erase c := by
  dsimp only [Rd]; rw [if_pos ⟨rfl, rfl⟩]; unfold payers; exact if_pos rfl
theorem duties_recv : (Rd out).duties (recvCell c) 0 = Finset.univ.erase c := by
  dsimp only [Rd]; rw [if_pos ⟨rfl, rfl⟩]; unfold payers; exact if_pos rfl
theorem duties_send (n : ℕ) (h : n < 15) : (Rd out).duties (sendCell c n) 0 = {c} := by
  dsimp only [Rd]; rw [if_pos ⟨rfl, rfl⟩]; unfold payers; dsimp only
  rw [sendS_val n h, if_neg (by omega), if_pos (by omega)]
theorem duties_later (g : GSem nD τ sig) : ∀ r, 1 ≤ r → (Rd out).duties g r = ∅ :=
  fun r hr => by dsimp only [Rd]; exact if_neg fun h => by omega

theorem amount_bar (d : Dev nD) : (Rd out).amount (barCell c) 0 d = 1 := rfl
theorem amount_recv (d : Dev nD) : (Rd out).amount (recvCell c) 0 d = N := rfl
theorem amount_send (n : ℕ) (d : Dev nD) : (Rd out).amount (sendCell c n) 0 d = N := rfl

theorem card_others : (Finset.univ.erase c : Finset (Dev nD)).card = 15 := by
  rw [Finset.card_erase_of_mem (Finset.mem_univ c), Finset.card_univ]; rfl

theorem expect_bar : (Rd out).expect (barCell c) 0 = 15 := by
  unfold Schedule.expect Schedule.amountOf
  rw [duties_bar, Finset.sum_congr rfl fun d _ => amount_bar out c d, Finset.sum_const, card_others]; rfl
theorem expect_recv : (Rd out).expect (recvCell c) 0 = 15 * N := by
  unfold Schedule.expect Schedule.amountOf
  rw [duties_recv, Finset.sum_congr rfl fun d _ => amount_recv out c d, Finset.sum_const, card_others]; rfl
theorem expect_send (n : ℕ) (h : n < 15) : (Rd out).expect (sendCell c n) 0 = N := by
  unfold Schedule.expect Schedule.amountOf
  rw [duties_send out c n h, Finset.sum_singleton, amount_send]

theorem payload_bar (d : Dev nD) : (Rd out).payload (barCell c) 0 d = barPay c d := rfl
theorem payload_recv (d : Dev nD) : (Rd out).payload (recvCell c) 0 d = recvPay out c d := by
  show payload out c (.dma recvS) d = _; unfold payload; exact if_pos rfl
theorem payload_send (n : ℕ) (h : n < 15) (d : Dev nD) : (Rd out).payload (sendCell c n) 0 d = sendPay c n := by
  show payload out c (.dma (sendS n)) d = _; unfold payload; dsimp only
  rw [sendS_val n h, if_neg (by omega), Nat.add_sub_cancel_left]

end Tables

/-! ## What a device owes, and the order of waiting

At launch a device owes one unit to every other barrier and one block to every other receive semaphore. The staging
semaphores of the pipeline and the send semaphores are lowest, then the barrier, then the receive semaphore. -/

/-- The barrier units of the signals number `n` to 15. -/
def owedBar (c : Dev nD) (n : ℕ) : CellTallies nD τ sig Unit := ∑ k ∈ Finset.Ico n 16, tallyAt (barCell (peer c k)) () 1
/-- The blocks of the steps `n` to 14. -/
def owedRecv (c : Dev nD) (n : ℕ) : CellTallies nD τ sig Unit := ∑ k ∈ Finset.Ico n 15, tallyAt (recvCell (tgt c k)) () N
def O₀ (c : Dev nD) : CellTallies nD τ sig Unit := owedRecv c 0 + owedBar c 1

theorem owedBar_step (c : Dev nD) (n : ℕ) (h : n < 16) : owedBar c n = owedBar c (n + 1) + tallyAt (barCell (peer c n)) () 1 := by
  unfold owedBar; rw [Ico_step h, Finset.sum_insert Ico_step_notMem, add_comm]
theorem owedBar_end (c : Dev nD) : owedBar c 16 = 0 := by unfold owedBar; rw [Finset.Ico_self, Finset.sum_empty]
theorem owedRecv_step (c : Dev nD) (n : ℕ) (h : n < 15) : owedRecv c n = owedRecv c (n + 1) + tallyAt (recvCell (tgt c n)) () N := by
  unfold owedRecv; rw [Ico_step h, Finset.sum_insert Ico_step_notMem, add_comm]
theorem owedRecv_end (c : Dev nD) (n : ℕ) (h : 15 ≤ n) : owedRecv c n = 0 := by
  unfold owedRecv; rw [Finset.Ico_eq_empty (by omega), Finset.sum_empty]

def L (g : GSem nD τ sig) : Finset Unit := if g.1.2 = .tc then {()} else ∅
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 := by
  unfold lv; rw [if_neg (fun h => by cases h), if_pos rfl]

/-- Whatever is owed to receive semaphores is owed to one of them. -/
theorem owedRecv_pos {c : Dev nD} {n : ℕ} {g : GSem nD τ sig} {u : Unit} (h : 0 < owedRecv c n g u) : ∃ d, g = recvCell d := by
  unfold owedRecv at h
  rw [Finset.sum_apply, Finsupp.finset_sum_apply] at h
  obtain ⟨k, _, hk⟩ := Finset.exists_ne_zero_of_sum_ne_zero (Nat.pos_iff_ne_zero.mp h)
  rw [tallyAt_apply] at hk
  by_cases he : g = recvCell (tgt c k) ∧ u = ()
  · exact ⟨_, he.1⟩
  · rw [if_neg he] at hk; exact absurd rfl hk
theorem owedBar_pos {c : Dev nD} {n : ℕ} {g : GSem nD τ sig} {u : Unit} (h : 0 < owedBar c n g u) : ∃ d, g = barCell d := by
  unfold owedBar at h
  rw [Finset.sum_apply, Finsupp.finset_sum_apply] at h
  obtain ⟨k, _, hk⟩ := Finset.exists_ne_zero_of_sum_ne_zero (Nat.pos_iff_ne_zero.mp h)
  rw [tallyAt_apply] at hk
  by_cases he : g = barCell (peer c k) ∧ u = ()
  · exact ⟨_, he.1⟩
  · rw [if_neg he] at hk; exact absurd rfl hk
theorem O₀_pos {c : Dev nD} {g : GSem nD τ sig} {u : Unit} (h : 0 < O₀ c g u) : (∃ d, g = recvCell d) ∨ ∃ d, g = barCell d := by
  unfold O₀ at h
  rw [Pi.add_apply, Finsupp.add_apply] at h
  exact (Nat.add_pos_iff_pos_or_pos.mp h).imp owedRecv_pos owedBar_pos

/-- The wait at the barrier is allowed while blocks are owed. -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨d, rfl⟩ := owedRecv_pos hg; rw [L_tc]; exact Finset.mem_singleton_self _)
    (fun p hp => by rw [Finset.mem_singleton.mp hp]; exact le_of_eq (lv_bar c))
    (fun g u hg => by obtain ⟨d, rfl⟩ := owedRecv_pos hg; cases u; rw [lv_recv]; decide)

/-- A wait on a semaphore of level zero is allowed whatever of this protocol is owed. -/
theorem owed_above {c : Dev nD} {g : GSem nD τ sig} {u : Unit} (h : 0 < O₀ c g u) : u ∈ L g ∧ 0 < lv g u := by
  rcases O₀_pos h with ⟨d, rfl⟩ | ⟨d, rfl⟩ <;> cases u
  · exact ⟨by rw [L_tc]; exact Finset.mem_singleton_self _, by rw [lv_recv]; decide⟩
  · exact ⟨by rw [L_tc]; exact Finset.mem_singleton_self _, by rw [lv_bar]; decide⟩
theorem owedRecv_above {c : Dev nD} {n : ℕ} {g : GSem nD τ sig} {u : Unit} (h : 0 < owedRecv c n g u) : u ∈ L g ∧ 0 < lv g u := by
  obtain ⟨d, rfl⟩ := owedRecv_pos h; cases u
  exact ⟨by rw [L_tc]; exact Finset.mem_singleton_self _, by rw [lv_recv]; decide⟩

end Cert.KernelIdeal.Exchange

end
-- ==== Proof.Program.lean ====
/- The grid step as a list of operations: the fifteen entry signals as one list, the fifteen pairs of waits at the end
   as one loop, and the three kinds of step (first, middle, last) as three straight-line programs. -/
module

public import proofs.«01_k».proof.Proof.Protocol

@[expose] public section

noncomputable section

namespace Cert.KernelIdeal.Exchange

open Idealize.ShloMosaic Idealize.ShloMosaic.TcCoe
open Idealize.SL.Sem
open Cert.KernelIdeal.Gen

variable {F : FTy → Type} [FloatOps F]

/-- A program of a core. -/
abbrev P (F : FTy → Type) : Type 1 := Prog (TpuEff nD τ sig (Elt F) Λ₀ .tc) PUnit

/-! ## The entry -/

/-- One unit to the barrier of each device of the list. -/
def signals : List (Dev nD) → P F → P F
  | [], k => k
  | d :: ds, k => .op (.semSignal (Dev.tc d) barS 1) fun _ => signals ds k

theorem dev_words : ∀ d : Dev nD, [k0_dev1 d, k0_dev2 d, k0_dev3 d, k0_dev4 d, k0_dev5 d, k0_dev6 d, k0_dev7 d, k0_dev8 d,
    k0_dev9 d, k0_dev10 d, k0_dev11 d, k0_dev12 d, k0_dev13 d, k0_dev14 d, k0_dev15 d] = (signalled d).map Fin.val := by
  decide +kernel

/-- The devices the program names, as numbers of devices. -/
def named (i : grid0.Coords) (h : k0_cond1 i = 1#1) (d : Dev nD) : List (Dev nD) :=
  [⟨k0_dev1 d, k0_dev1_lt i d h⟩, ⟨k0_dev2 d, k0_dev2_lt i d h⟩, ⟨k0_dev3 d, k0_dev3_lt i d h⟩, ⟨k0_dev4 d, k0_dev4_lt i d h⟩,
   ⟨k0_dev5 d, k0_dev5_lt i d h⟩, ⟨k0_dev6 d, k0_dev6_lt i d h⟩, ⟨k0_dev7 d, k0_dev7_lt i d h⟩, ⟨k0_dev8 d, k0_dev8_lt i d h⟩,
   ⟨k0_dev9 d, k0_dev9_lt i d h⟩, ⟨k0_dev10 d, k0_dev10_lt i d h⟩, ⟨k0_dev11 d, k0_dev11_lt i d h⟩, ⟨k0_dev12 d, k0_dev12_lt i d h⟩,
   ⟨k0_dev13 d, k0_dev13_lt i d h⟩, ⟨k0_dev14 d, k0_dev14_lt i d h⟩, ⟨k0_dev15 d, k0_dev15_lt i d h⟩]

theorem named_eq (i : grid0.Coords) (h : k0_cond1 i = 1#1) (d : Dev nD) : named i h d = signalled d :=
  List.map_injective_iff.mpr Fin.val_injective (dev_words d)

/-! ## The copies -/

theorem words_of_eq {o : Fin 3 → ℕ} {n : ℕ} (e : o = ![n, 0, 0]) (h : n < 15) (ho : ∀ a, o a + S1x256x512.size a ≤ S15x256x512.size a)
    (hw : (Rect.unit (s := S15x256x512) o S1x256x512.size ho).WholeWords (EltTy.packing .bf16)) :
    (rectY n h).WholeWords (EltTy.packing .bf16) := by subst e; exact hw

theorem cond4_of : ∀ i : grid0.Coords, (i 0).val < 15 → k0_cond4 i = 1#1 := by decide +kernel

/-- The grid coordinate `n`. -/
def crd (n : ℕ) (h : n < 16) : grid0.Coords := fun | 0 => ⟨n, h⟩

theorem yPart_words (n : ℕ) (h : n < 15) : (yPart n h).view.WordExact :=
  ((Memref.isWhole_whole cc0_scratch1).wordExact_slice rfl _
    (words_of_eq (k0_off5_eq (crd n (by omega))) h _ (Gen.k0_off5_wordsbf16 (crd n (by omega)) (cond4_of _ h)))).reshape _ _

/-! ## The waits -/

/-- The semaphore of step `n`, as the program addresses it. -/
abbrev sendAt (n : ℕ) (h : n < 15) : DmaSem sig :=
  ((cc0_scratch3.slice (Rect.unit (s := S15) ![n] S1.size (inbS n h))).squeeze S_ squeezes_S1_S_).sem

/-- The waits of steps `n` to `n + k - 1`: for each, its own copy, then one arrival. -/
def waits : (k n : ℕ) → n + k = 15 → P F → P F
  | 0, _, _, r => r
  | k + 1, n, h, r =>
    .op (.waitDma2 (sendAt n (by omega)) (yPart n (by omega)) (yPart n (by omega)) (yPart_words n (by omega)) (yPart_words n (by omega))) fun _ =>
    .op (.waitDma2 recvS (yPart n (by omega)) (yPart n (by omega)) (yPart_words n (by omega)) (yPart_words n (by omega))) fun _ =>
      waits k (n + 1) (by omega) r

/-! ## The pieces of a step -/

section Pieces

variable (a2 : Memref sig .tc .vmem S256x4096 .fp8e4m3) (h2 : a2.IsWhole)
  (a3 : Memref sig .tc .vmem S4096x512 .fp8e5m2) (h3 : a3.IsWhole)
  (a4 : Memref sig .tc .smem S1 .f32) (h4 : a4.IsWhole) (a5 : Memref sig .tc .smem S1 .f32) (h5 : a5.IsWhole)
  (a6 : Memref sig .tc .vmem S4096x512 .f32) (h6 : a6.IsWhole)

abbrev qM : Memref sig .tc .vmem S256x4096 .bf16 := Memref.whole cc0_scratch0
abbrev rectQ : Rect S256x4096 := Rect.unit ![0, 0] S256x4096.size inb_S256x4096_S256x4096_0_0
abbrev rectW : Rect S4096x512 := Rect.unit ![0, 0] S4096x512.size inb_S4096x512_S4096x512_0_0
abbrev rectS : Rect S1 := Rect.unit ![0] S1.size inb_S1_S1_0
abbrev rectAll : Rect S16x256x512 := Rect.unit ![0, 0, 0] S16x256x512.size inb_S16x256x512_S16x256x512_0_0_0

/-- Widen the block of `x` once. -/
def widen (k : P F) : P F :=
  .op (.load a2 rectQ.toLoadRect (View.loadsAt_vmem h_S256x4096)) fun x =>
  .op (.load qM rectQ.toLoadRect (View.loadsAt_vmem h_S256x4096)) fun _ =>
  .op (.store qM rectQ (k0_pay3 x) Finset.univ (View.stores_vmem h_S256x4096
    ((Memref.isWhole_whole cc0_scratch0).storeExact_slice rfl _ packedbf16_S256x4096_S256x4096_0_0) (fun _ => rfl)) (.inl rfl)) fun _ => k

/-- Read the scales, the block of `w_mat` and the widened `x`. -/
def operands (k : Elt F .f32 → Elt F .f32 → Vec F S4096x512 .fp8e5m2 → Vec F S256x4096 .bf16 → P F) : P F :=
  smemLoad a4 rectS numel1_S1 rfl >>= fun p =>
  smemLoad a5 rectS numel1_S1 rfl >>= fun q =>
  .op (.load a3 rectW.toLoadRect (View.loadsAt_vmem h_S4096x512)) fun w =>
  .op (.load qM rectQ.toLoadRect (View.loadsAt_vmem h_S256x4096)) fun x => k p q w x

/-- Write a step's block to its slot and start the copy to device `t`. -/
def copyOut (i : grid0.Coords) (h : k0_cond4 i = 1#1) (d : Dev nD) (v : FVec F S256x512 .f32) (k : P F) : P F :=
  .op (.load yM (Rect.unit (s := S15x256x512) (k0_off2 i) S1x256x512.size (k0_off2_inb i h)).toLoadRect (View.loadsAt_vmem h_S1x256x512)) fun _ =>
  .op (.store yM (Rect.unit (s := S15x256x512) (k0_off2 i) S1x256x512.size (k0_off2_inb i h)) (k0_pay1 v) Finset.univ
    (View.stores_vmem h_S1x256x512 ((Memref.isWhole_whole cc0_scratch1).storeExact_slice rfl _ (k0_off2_packedbf16 i h)) (fun _ => rfl)) (.inl rfl)) fun _ =>
  .op (.enqueueDma
    ((yM.slice (Rect.unit (s := S15x256x512) (k0_off5 i) S1x256x512.size (k0_off5_inb i h)) (fun _ => rfl)).squeeze S256x512 squeezes_S1x256x512_S256x512)
    (.remote (Dev.tc (⟨k0_dev16 i d, k0_dev16_lt i d h⟩ : Dev nD))
      ((rM.slice (Rect.unit (s := S16x256x512) (k0_off4 d) S1x256x512.size (k0_off4_inb i d h)) (fun _ => rfl)).squeeze S256x512 squeezes_S1x256x512_S256x512)
      (.dma ((cc0_scratch3.slice (Rect.unit (s := S15) (k0_off3 i) S1.size (k0_off3_inb i h))).squeeze S_ squeezes_S1_S_).sem))
    (.dma recvS)
    (((Memref.isWhole_whole cc0_scratch1).wordExact_slice rfl _ (k0_off5_wordsbf16 i h)).reshape _ _)
    (((Memref.isWhole_whole cc0_scratch2).wordExact_slice rfl _ (k0_off4_wordsbf16 i d h)).reshape _ _)
    ⟨⟨rfl, Or.inl rfl⟩, trivial⟩) fun _ => k

/-- Write the own block to the own slot of the receive buffer. -/
def keep (i : grid0.Coords) (h : k0_cond3 i = 1#1) (d : Dev nD) (v : FVec F S1x256x512 .bf16) (k : P F) : P F :=
  .op (.load rM (Rect.unit (s := S16x256x512) (k0_off1 d) S1x256x512.size (k0_off1_inb i d h)).toLoadRect (View.loadsAt_vmem h_S1x256x512)) fun _ =>
  .op (.store rM (Rect.unit (s := S16x256x512) (k0_off1 d) S1x256x512.size (k0_off1_inb i d h)) v Finset.univ
    (View.stores_vmem h_S1x256x512 ((Memref.isWhole_whole cc0_scratch2).storeExact_slice rfl _ (k0_off1_packedbf16 i d h)) (fun _ => rfl)) (.inl rfl)) fun _ => k

/-- Read the whole receive buffer and write the result block. -/
def gather : P F :=
  .op (.load rM rectAll.toLoadRect (View.loadsAt_vmem h_S16x256x512)) fun y =>
  .op (.load a6 rectW.toLoadRect (View.loadsAt_vmem h_S4096x512)) fun _ =>
  .op (.store a6 rectW (k0_pay2 y) Finset.univ (View.stores_vmem_bits_univ h_S4096x512 rfl) (.inl rfl)) fun _ => .ret ⟨⟩

variable (i : grid0.Coords) (a1 : Memref sig .tc .smem S1 .i32) (h1 : a1.IsWhole)

/-- The step at coordinate `i`. -/
abbrev step : P F :=
  cc0_body (F := F) i a1 h1 a2 h2 a3 h3 a4 h4 a5 h5 a6 h6 qM (Memref.isWhole_whole _) yM (Memref.isWhole_whole _) rM (Memref.isWhole_whole _) cc0_scratch3 cc0_scratch4

set_option maxRecDepth 65536 in
theorem part10_eq (v : BitVec 32) (k : FVec F S4096x512 .f32 → P F) :
    (k0_part10 (F := F) i a1 h1 a2 h2 a3 h3 a4 h4 a5 h5 a6 h6 qM (Memref.isWhole_whole _) yM (Memref.isWhole_whole _) rM (Memref.isWhole_whole _) cc0_scratch3 cc0_scratch4 v >>= k)
      = waits 15 0 rfl (.op (.load rM rectAll.toLoadRect (View.loadsAt_vmem h_S16x256x512)) fun y => k (k0_pay2 y)) := by
  simp only [k0_part10_eq_skeleton, k0_part10_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, Prog.lift, Prog.bind_op, Prog.bind_ret, Prog.pure_eq_ret]
  rfl

theorem cond1_of_pos : ∀ i : grid0.Coords, (i 0).val ≠ 0 → k0_cond1 i ≠ 1#1 := by decide +kernel
theorem cond1_of_zero : ∀ i : grid0.Coords, (i 0).val = 0 → k0_cond1 i = 1#1 := by decide +kernel
theorem cond3_of_lt : ∀ i : grid0.Coords, (i 0).val < 15 → k0_cond3 i ≠ 1#1 := by decide +kernel
theorem cond5_of_lt : ∀ i : grid0.Coords, (i 0).val < 15 → k0_cond5 i ≠ 1#1 := by decide +kernel
theorem cond3_of_last : ∀ i : grid0.Coords, (i 0).val = 15 → k0_cond3 i = 1#1 := by decide +kernel
theorem cond4_of_last : ∀ i : grid0.Coords, (i 0).val = 15 → k0_cond4 i ≠ 1#1 := by decide +kernel
theorem cond5_of_last : ∀ i : grid0.Coords, (i 0).val = 15 → k0_cond5 i = 1#1 := by decide +kernel

theorem cond2_of_cond1 (h : k0_cond1 i = 1#1) :
    Scalar.cmpi .ne (Scalar.extui (Scalar.cmpi .eq (BitVec.ofNat 32 (i 0).val) 0#32)) 0#32 = 1#1 := h
theorem cond2_of_not (h : k0_cond1 i ≠ 1#1) :
    ¬ Scalar.cmpi .ne (Scalar.extui (Scalar.cmpi .eq (BitVec.ofNat 32 (i 0).val) 0#32)) 0#32 = 1#1 := h

set_option maxRecDepth 65536 in
theorem step_first (c1 : k0_cond1 i = 1#1) (c3 : k0_cond3 i ≠ 1#1) (c4 : k0_cond4 i = 1#1) (c5 : k0_cond5 i ≠ 1#1) :
    step (F := F) a2 h2 a3 h3 a4 h4 a5 h5 a6 h6 i a1 h1
      = .op .deviceId fun d => signals (signalled d) (.op (.semWait barS 15) fun _ =>
          widen a2 (operands a3 a4 a5 fun p q w x => copyOut i c4 d (k0_pay4 p q w x) (.ret ⟨⟩))) := by
  simp only [← named_eq i c1]
  simp only [step, cc0_body_eq_skeleton, cc0_body_skel, k0_part11_eq_skeleton, k0_part11_skel, k0_part1_eq_skeleton, k0_part1_skel,
    k0_part2_eq_skeleton, k0_part2_skel, dif_pos c1, dif_neg c3, dif_pos c4, dif_neg c5, dif_pos (cond2_of_cond1 i c1),
    semSignalWord, semWaitWord, Prog.lift, Prog.bind_op, Prog.bind_ret, Prog.pure_eq_ret]
  rfl

set_option maxRecDepth 65536 in
theorem step_mid (c1 : k0_cond1 i ≠ 1#1) (c3 : k0_cond3 i ≠ 1#1) (c4 : k0_cond4 i = 1#1) (c5 : k0_cond5 i ≠ 1#1) :
    step (F := F) a2 h2 a3 h3 a4 h4 a5 h5 a6 h6 i a1 h1
      = .op .deviceId fun d => operands a3 a4 a5 fun p q w x => copyOut i c4 d (k0_pay4 p q w x) (.ret ⟨⟩) := by
  simp only [step, cc0_body_eq_skeleton, cc0_body_skel, k0_part11_eq_skeleton, k0_part11_skel,
    dif_neg c1, dif_neg c3, dif_pos c4, dif_neg c5, dif_neg (cond2_of_not i c1),
    Prog.lift, Prog.bind_op, Prog.bind_ret, Prog.pure_eq_ret]
  rfl

set_option maxRecDepth 65536 in
theorem step_last (c1 : k0_cond1 i ≠ 1#1) (c3 : k0_cond3 i = 1#1) (c4 : k0_cond4 i ≠ 1#1) (c5 : k0_cond5 i = 1#1) :
    step (F := F) a2 h2 a3 h3 a4 h4 a5 h5 a6 h6 i a1 h1
      = .op .deviceId fun d => operands a3 a4 a5 fun p q w x => keep i c3 d (k0_pay5 p q w x) (waits 15 0 rfl (gather a6)) := by
  unfold gather
  simp only [step, cc0_body_eq_skeleton, cc0_body_skel, k0_part11_eq_skeleton, k0_part11_skel,
    dif_neg c1, dif_pos c3, dif_neg c4, dif_pos c5, dif_neg (cond2_of_not i c1), part10_eq,
    Prog.lift, Prog.bind_op, Prog.bind_ret, Prog.pure_eq_ret]
  rfl

end Pieces

end Cert.KernelIdeal.Exchange

end
-- ==== Proof.Entry.lean ====
/- The entry handshake: a device tells the fifteen others that it has entered, handing each the slot of its receive buffer
   that the other writes, and waits until all fifteen have told it the same. -/
module

public import proofs.«01_k».proof.Proof.Program

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- A device's program, run to `Q`. -/
abbrev run (c : Dev nD) (p : P F) (Q : PUnit → sProp 𝕄) : sProp 𝕄 :=
  wp frame (wpE (defs₀ (F := F)) 𝒱₀ (c : Thread nD τ) none) Set.univ p Q

theorem bigSep_take {M I : Type} [URA M] [DecidableEq I] {s : Finset I} {i : I} (h : i ∈ s) {Φ : I → sProp M} :
    (bigSep s Φ : sProp M) ⊢ Φ i := BI.bigSep_elim h
theorem bigSep_put {M I : Type} [URA M] [DecidableEq I] {s : Finset I} {i : I} (h : i ∉ s) (Φ : I → sProp M) :
    bigSep (insert i s) Φ = iprop(Φ i ∗ bigSep s Φ) := BI.bigSep_insert h

/-- The invariants of every semaphore of the protocol, under the names `K`. -/
def invs (out : Blocks F) (K : GSem nD τ sig → ℕ) : sProp 𝕄 :=
  iprop((bigSep Finset.univ fun d : Dev nD => cellInv ER (Rd out) (K (barCell d)) (barCell d))
    ∗ (bigSep Finset.univ fun d : Dev nD => cellInv ER (Rd out) (K (recvCell d)) (recvCell d))
    ∗ bigSep Finset.univ fun d : Dev nD => bigSep (Finset.Ico 0 15) fun n => cellInv ER (Rd out) (K (sendCell d n)) (sendCell d n))

instance invs_persistent (out : Blocks F) (K : GSem nD τ sig → ℕ) : BI.Persistent (invs out K) := by unfold invs; infer_instance

section
variable (out : Blocks F) (K : GSem nD τ sig → ℕ)

theorem invs_bar (d : Dev nD) : invs out K ⊢ cellInv ER (Rd out) (K (barCell d)) (barCell d) := by
  unfold invs
  iintro ⟨H, -, -⟩
  iapply (bigSep_take (Finset.mem_univ d)) $$ H
theorem invs_recv (d : Dev nD) : invs out K ⊢ cellInv ER (Rd out) (K (recvCell d)) (recvCell d) := by
  unfold invs
  iintro ⟨-, H, -⟩
  iapply (bigSep_take (Finset.mem_univ d)) $$ H
theorem invs_send (d : Dev nD) (n : ℕ) (h : n < 15) : invs out K ⊢ cellInv ER (Rd out) (K (sendCell d n)) (sendCell d n) := by
  unfold invs
  iintro ⟨-, -, H⟩
  ihave H1 := (bigSep_take (Finset.mem_univ d)) $$ H
  iapply (bigSep_take (Finset.mem_Ico.mpr ⟨Nat.zero_le n, h⟩)) $$ H1
end

theorem bigSep_Ico_step {M : Type} [URA M] {n m : ℕ} (h : n < m) (Φ : ℕ → sProp M) :
    bigSep (Finset.Ico n m) Φ = iprop(Φ n ∗ bigSep (Finset.Ico (n + 1) m) Φ) := by
  rw [Ico_step h, bigSep_put Ico_step_notMem]
theorem bigSep_Ico_end {M : Type} [URA M] {n m : ℕ} (h : m ≤ n) (Φ : ℕ → sProp M) : bigSep (Finset.Ico n m) Φ = (BI.emp : sProp M) := by
  rw [Finset.Ico_eq_empty (by omega), bigSep_empty]

/-- What the signal number `j` takes with it. -/
def toSignal (c : Dev nD) (j : ℕ) : sProp 𝕄 :=
  iprop(dutyTok ER (barCell (peer c j)) 0 c ∗ reached ER (barCell (peer c j)) 0 ∗ ∃ f, rPts c (peer c j).val f)

theorem wp_signals (out : Blocks F) (K : GSem nD τ sig → ℕ) (c : Dev nD) (W : Waits sig Unit) (kont : P F) (Q : PUnit → sProp 𝕄) :
    ∀ (k n : ℕ), n + k = 16 → 1 ≤ n →
    iprop(invs out K ∗ reached ER (recvCell c) 0 ∗ owes (c : Thread nD τ) (owedRecv c 0 + owedBar c n) W ∗ bigSep (Finset.Ico n 16) (toSignal c))
      ⊢ iprop((owes (c : Thread nD τ) (owedRecv c 0) W -∗ run c kont Q) -∗ run c (signals ((List.range' n k).map (peer c)) kont) Q)
  | 0, n, h, hn => by
    obtain rfl : n = 16 := by omega
    rw [owedBar_end, add_zero]
    iintro ⟨-, -, HO, -⟩ Hk
    iapply Hk $$ HO
  | k + 1, n, h, hn => by
    rw [bigSep_Ico_step (show n < 16 by omega)]
    show iprop(_) ⊢ iprop(_ -∗ run c (.op (.semSignal (Dev.tc (peer c n)) barS 1) fun _ => signals ((List.range' (n + 1) k).map (peer c)) kont) Q)
    iintro ⟨#HI, #Hr, HO, Hn, Hrest⟩ Hk
    unfold toSignal
    icases Hn with ⟨Ht, Hb, Hs⟩
    iapply (Rounds.wp_signal 𝒱₀ ER (Rd out) (c : Thread nD τ) none (dst := (peer c n : Thread nD τ)) (sem := barS) (r := 0) (d := c)
        (κ := K (barCell (peer c n)))
        (by rw [duties_bar]; exact Finset.mem_erase.mpr ⟨(peer_ne c n (Finset.mem_Ico.mpr ⟨hn, by omega⟩)).symm, Finset.mem_univ _⟩)
        (amount_bar out (peer c n) c) () (O₀ := owedRecv c 0 + owedBar c n) (owedRecv c 0 + owedBar c (n + 1)) (by rw [owedBar_step c n (by omega), add_assoc])) $$ [HO Ht Hb Hs]
    · isplitr; · iapply (invs_bar out K (peer c n)); iexact HI
      isplitl [HO]; · iexact HO
      isplitl [Ht]; · iexact Ht
      isplitl [Hs]
      · rw [payload_bar]; unfold barPay
        isplitl [Hs]; · iexact Hs
        iexact Hr
      · iexact Hb
    iintro HO
    iapply (wp_signals out K c W kont Q k (n + 1) (by omega) (by omega)) $$ [HO Hrest] [Hk]
    · isplitr; · iexact HI
      isplitr; · iexact Hr
      isplitl [HO]; · iexact HO
      iexact Hrest
    · iexact Hk

/-- What the fifteen signals brought, in the order of the steps that use it. -/
theorem rest_bar (out : Blocks F) (c : Dev nD) :
    (bigSep ((Rd out).duties (barCell c) 0 \ ∅) (fun d => (Rd out).payload (barCell c) 0 d) : sProp 𝕄)
      = bigSep (Finset.Ico 0 15) fun n => barPay c (tgt c n) := by
  rw [duties_bar, Finset.sdiff_empty, ← tgt_image, bigSep_image_of_injOn (tgt_injOn c)]
  rfl

/-- The wait that ends the entry. -/
theorem wp_enter (out : Blocks F) (K : GSem nD τ sig → ℕ) (c : Dev nD) (W : Waits sig Unit) (kont : P F) (Q : PUnit → sProp 𝕄) :
    iprop(invs out K ∗ levAts L lv ∗ owes (c : Thread nD τ) (owedRecv c 0) W ∗ cred (tallyAt (barCell c) () 15) ∗ atPos ER (barCell c) 0 ∅ 0)
      ⊢ iprop(((∃ W, owes (c : Thread nD τ) (owedRecv c 0) W) ∗ atPos ER (barCell c) 1 ∅ 0
            ∗ bigSep (Finset.Ico 0 15) (fun n => barPay c (tgt c n)) -∗ run c kont Q)
        -∗ run c (.op (.semWait barS 15) fun _ => kont) Q) := by
  iintro ⟨#HI, #Hlev, HO, Hc, Hat⟩ Hk
  iapply (Rounds.wp_wait_rest_token 𝒱₀ ER (Rd out) (c : Thread nD τ) none (κ := K (barCell c))
      (wpE_semWait_eq 𝒱₀ (c : Thread nD τ) none Set.univ) (Set.mem_univ _) () (O := owedRecv c 0) (W := W) (R := 0) (m := 0) (T := ∅)
      ((Nat.zero_add 15).trans (expect_bar out c).symm)) $$ [Hc HO Hat]
  · isplitr; · iapply (invs_bar out K c); iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  ihave H := (Entails.of_eq (rest_bar out c)) $$ Hpay
  iexact H

end Cert.KernelIdeal.Exchange

end
-- ==== Proof.Compute.lean ====
/- The arithmetic of a step: the staged operands are read, the block of `x` is widened at the first step, the widened
   block is read at every step. -/
module

public import proofs.«01_k».proof.Proof.Entry

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Whole buffers, read and written -/

/-- The rectangle that is everything, at an index. -/
theorem whole_idx {s : Shape} {off : Fin s.rank → ℕ} (hz : off = fun _ => 0) (hb : ∀ a, off a + s.size a ≤ s.size a) (x : s.Idx) :
    (Rect.unit (s := s) off s.size hb).toLoadRect.idx x = x := by
  subst hz
  funext a
  refine Fin.ext ?_
  show 0 + 1 * (x a).val = (x a).val
  omega

theorem owned_load {cs : CoreSpace} {s : Shape} {e : EltTy} (c : Dev nD) (m : Memref sig .tc cs s e) {off : Fin s.rank → ℕ}
    (hz : off = fun _ => 0) (hb : ∀ a, off a + s.size a ≤ s.size a) {hl : m.view.LoadsAt (Rect.unit off s.size hb).toLoadRect}
    (X : s.Idx → Elt F e) (k : (s.Idx → Elt F e) → P F) (Q : PUnit → sProp 𝕄) :
    (owns (c : Thread nD τ) m fullShare X : sProp 𝕄)
      ⊢ iprop((owns (c : Thread nD τ) m fullShare X -∗ run c (k X) Q) -∗ run c (.op (.load m (Rect.unit off s.size hb).toLoadRect hl) k) Q) := by
  unfold owns
  iintro ⟨%f, %hf, H⟩ Hk
  iapply (wp_load 𝒱₀ (c : Thread nD τ) none Set.univ (m := m) (r := (Rect.unit off s.size hb).toLoadRect) (S := m.view.set) (f := f)
    (by intro i hi; obtain ⟨x, -, rfl⟩ := Finset.mem_map.mp hi; exact m.view.emb_mem_set x)) $$ H
  iintro H
  rw [show m.view.readAt (Elt F) (Rect.unit off s.size hb).toLoadRect f = X from by
    rw [← hf]; funext x; exact congrArg (m.view.read (Elt F) f) (whole_idx hz hb x)]
  iapply Hk
  iexists f
  isplitr; · ipureintro; exact hf
  iexact H

theorem owned_store {s : Shape} {e : EltTy} (c : Dev nD) (m : Memref sig .tc .vmem s e) {off : Fin s.rank → ℕ}
    (hz : off = fun _ => 0) (hb : ∀ a, off a + s.size a ≤ s.size a) (w : s.Idx → Elt F e)
    {hx : (m.access (Rect.unit off s.size hb)).Stores Finset.univ} {hm : Finset.univ = Finset.univ ∨ ∀ a, (Rect.unit off s.size hb).stride a = 1}
    (X : s.Idx → Elt F e) (k : P F) (Q : PUnit → sProp 𝕄) :
    (owns (c : Thread nD τ) m fullShare X : sProp 𝕄)
      ⊢ iprop((owns (c : Thread nD τ) m fullShare w -∗ run c k Q) -∗ run c (.op (.store m (Rect.unit off s.size hb) w Finset.univ hx hm) fun _ => k) Q) := by
  unfold owns
  iintro ⟨%f, %hf, H⟩ Hk
  iapply (wp_store 𝒱₀ (c : Thread nD τ) none Set.univ (m := m) (r := Rect.unit off s.size hb) (w := w) (Mk := Finset.univ) (S := m.view.set) (f := f)
    (by intro i hi; obtain ⟨x, -, rfl⟩ := Finset.mem_map.mp hi; exact m.view.emb_mem_set _)) $$ H
  iintro H
  iapply Hk
  iexists _
  isplitr
  · ipureintro
    funext x
    have h := View.read_slice_write_emb (Val := Elt F) (v := m.view) (Rect.unit off s.size hb) f w (M := Finset.univ) (x := x) (Finset.mem_univ x)
    rwa [show (Rect.unit (s := s) off s.size hb).emb x = x from whole_idx hz hb x] at h
  iexact H

/-- The word of a buffer of one word. -/
def word (X : S1.Idx → Elt F .f32) : Elt F .f32 := X (Shape.Idx.first (numel1_S1.symm ▸ Nat.one_pos))

theorem owned_word (c : Dev nD) (m : Memref sig .tc .smem S1 .f32) (X : S1.Idx → Elt F .f32) (k : Elt F .f32 → P F) (Q : PUnit → sProp 𝕄) :
    (owns (c : Thread nD τ) m fullShare X : sProp 𝕄)
      ⊢ iprop((owns (c : Thread nD τ) m fullShare X -∗ run c (k (word X)) Q) -∗ run c (smemLoad m rectS numel1_S1 rfl >>= k) Q) := by
  have hz : (![0] : Fin 1 → ℕ) = fun _ => 0 := by decide
  exact owned_load c m hz inb_S1_S1_0 (hl := View.loadsAt_rect (View.loads_smem_one rfl numel1_S1)) X
    (fun f => k (f (Shape.Idx.first (numel1_S1.symm ▸ Nat.one_pos)))) Q

/-! ## The pieces -/

abbrev qLoc (c : Dev nD) : Loc nD τ sig := (c : Thread nD τ).loc cc0_scratch0

theorem zero2 : (![0, 0] : Fin 2 → ℕ) = fun _ => 0 := by decide
theorem zero3 : (![0, 0, 0] : Fin 3 → ℕ) = fun _ => 0 := by decide

section
variable (a2 : Memref sig .tc .vmem S256x4096 .fp8e4m3) (a3 : Memref sig .tc .vmem S4096x512 .fp8e5m2)
  (a4 a5 : Memref sig .tc .smem S1 .f32) (c : Dev nD)

theorem wp_widen (Q : PUnit → sProp 𝕄) (X : FVec F S256x4096 .fp8e4m3) (k : P F) :
    iprop(owns (c : Thread nD τ) a2 fullShare X ∗ ∃ f, owns (c : Thread nD τ) qM fullShare f)
      ⊢ iprop((owns (c : Thread nD τ) a2 fullShare X ∗ owns (c : Thread nD τ) qM fullShare (k0_pay3 X) -∗ run c k Q) -∗ run c (widen a2 k) Q) := by
  unfold widen
  iintro ⟨HX, %f, Hq⟩ Hk
  iapply (owned_load c a2 zero2 _ X _ Q) $$ HX; iintro HX
  iapply (owned_load c qM zero2 _ f _ Q) $$ Hq; iintro Hq
  iapply (owned_store c qM zero2 _ (k0_pay3 X) f _ Q) $$ Hq; iintro Hq
  iapply Hk
  isplitl [HX]; · iexact HX
  iexact Hq

theorem wp_operands (Q : PUnit → sProp 𝕄) (S T : S1.Idx → Elt F .f32) (B : FVec F S4096x512 .fp8e5m2) (X : FVec F S256x4096 .bf16)
    (k : Elt F .f32 → Elt F .f32 → Vec F S4096x512 .fp8e5m2 → Vec F S256x4096 .bf16 → P F) :
    iprop(owns (c : Thread nD τ) a4 fullShare S ∗ owns (c : Thread nD τ) a5 fullShare T ∗ owns (c : Thread nD τ) a3 fullShare B
        ∗ owns (c : Thread nD τ) qM fullShare X)
      ⊢ iprop((owns (c : Thread nD τ) a4 fullShare S ∗ owns (c : Thread nD τ) a5 fullShare T ∗ owns (c : Thread nD τ) a3 fullShare B
          ∗ owns (c : Thread nD τ) qM fullShare X -∗ run c (k (word S) (word T) B X) Q) -∗ run c (operands a3 a4 a5 k) Q) := by
  unfold operands
  iintro ⟨HS, HT, HB, HX⟩ Hk
  iapply (owned_word c a4 S _ Q) $$ HS; iintro HS
  iapply (owned_word c a5 T _ Q) $$ HT; iintro HT
  iapply (owned_load c a3 zero2 _ B _ Q) $$ HB; iintro HB
  iapply (owned_load c qM zero2 _ X _ Q) $$ HX; iintro HX
  iapply Hk
  isplitl [HS]; · iexact HS
  isplitl [HT]; · iexact HT
  isplitl [HB]; · iexact HB
  iexact HX
end

end Cert.KernelIdeal.Exchange

end
-- ==== Proof.Copy.lean ====
/- A block written to its slot of the send buffer and copied out; the own block written to the receive buffer. -/
module

public import proofs.«01_k».proof.Proof.Compute

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The rectangles the program addresses -/

section Rects

variable {o : Fin 3 → ℕ} {n : ℕ} (e : o = ![n, 0, 0])
include e

theorem unitY_set (h : n < 15) (ho : ∀ a, o a + S1x256x512.size a ≤ S15x256x512.size a) :
    (Rect.unit (s := S15x256x512) o S1x256x512.size ho).set = ySlot n := by subst e; exact rectY_set n h
theorem unitR_set (h : n < 16) (ho : ∀ a, o a + S1x256x512.size a ≤ S16x256x512.size a) :
    (Rect.unit (s := S16x256x512) o S1x256x512.size ho).set = rSlot n := by subst e; exact rectR_set n h

theorem unitY_load (h : n < 15) (ho : ∀ a, o a + S1x256x512.size a ≤ S15x256x512.size a) :
    yM.view.setOn (Rect.unit (s := S15x256x512) o S1x256x512.size ho).toLoadRect.set ⊆ ySlot n := by
  subst e
  intro i hi
  obtain ⟨x, hx, rfl⟩ := Finset.mem_map.mp hi
  exact rectY_set n h ▸ hx
theorem unitR_load (h : n < 16) (ho : ∀ a, o a + S1x256x512.size a ≤ S16x256x512.size a) :
    rM.view.setOn (Rect.unit (s := S16x256x512) o S1x256x512.size ho).toLoadRect.set ⊆ rSlot n := by
  subst e
  intro i hi
  obtain ⟨x, hx, rfl⟩ := Finset.mem_map.mp hi
  exact rectR_set n h ▸ hx

theorem unitY_store (h : n < 15) (ho : ∀ a, o a + S1x256x512.size a ≤ S15x256x512.size a) :
    (yM.access (Rect.unit (s := S15x256x512) o S1x256x512.size ho)).setOn Finset.univ ⊆ ySlot n := by
  subst e
  intro i hi
  obtain ⟨x, -, rfl⟩ := Finset.mem_map.mp hi
  exact mem_ySlot.mpr (rectY_zero n h x)
theorem unitR_store (h : n < 16) (ho : ∀ a, o a + S1x256x512.size a ≤ S16x256x512.size a) :
    (rM.access (Rect.unit (s := S16x256x512) o S1x256x512.size ho)).setOn Finset.univ ⊆ rSlot n := by
  subst e
  intro i hi
  obtain ⟨x, -, rfl⟩ := Finset.mem_map.mp hi
  exact mem_rSlot.mpr (rectR_zero n h x)

/-- What a slot holds once a block is stored to it. -/
theorem unitY_write (h : n < 15) (ho : ∀ a, o a + S1x256x512.size a ≤ S15x256x512.size a)
    (f : (⟨S15x256x512, .bf16⟩ : BufTy).Contents (Elt F)) (w : FVec F S1x256x512 .bf16) {x : S15x256x512.Idx} (hx : x ∈ ySlot n) :
    (yM.access (Rect.unit (s := S15x256x512) o S1x256x512.size ho)).write (Elt F) f w Finset.univ x = w (inY x) := by
  subst e
  have hw := View.write_emb_of_mem (Val := Elt F) (v := yM.access (rectY n h)) f w (Finset.mem_univ (inY x))
  rwa [show (yM.access (rectY n h)).emb (inY x) = x from emb_inY n h x (mem_ySlot.mp hx)] at hw
theorem unitR_write (h : n < 16) (ho : ∀ a, o a + S1x256x512.size a ≤ S16x256x512.size a)
    (f : (⟨S16x256x512, .bf16⟩ : BufTy).Contents (Elt F)) (w : FVec F S1x256x512 .bf16) {x : S16x256x512.Idx} (hx : x ∈ rSlot n) :
    (rM.access (Rect.unit (s := S16x256x512) o S1x256x512.size ho)).write (Elt F) f w Finset.univ x = w (inR x) := by
  subst e
  have hw := View.write_emb_of_mem (Val := Elt F) (v := rM.access (rectR n h)) f w (Finset.mem_univ (inR x))
  rwa [show (rM.access (rectR n h)).emb (inR x) = x from emb_inR n h x (mem_rSlot.mp hx)] at hw

theorem unitY_part (h : n < 15) (ho : ∀ a, o a + S1x256x512.size a ≤ S15x256x512.size a) :
    (yM.slice (Rect.unit (s := S15x256x512) o S1x256x512.size ho) (fun _ => rfl)).squeeze S256x512 squeezes_S1x256x512_S256x512 = yPart n h := by
  subst e; rfl
theorem unitR_part (h : n < 16) (ho : ∀ a, o a + S1x256x512.size a ≤ S16x256x512.size a) :
    (rM.slice (Rect.unit (s := S16x256x512) o S1x256x512.size ho) (fun _ => rfl)).squeeze S256x512 squeezes_S1x256x512_S256x512 = rPart n h := by
  subst e; rfl
end Rects

theorem unitS_sem {o : Fin 1 → ℕ} {n : ℕ} (e : o = ![n]) (h : n < 15) (ho : ∀ a, o a + S1.size a ≤ S15.size a) :
    ((cc0_scratch3.slice (Rect.unit (s := S15) o S1.size ho)).squeeze S_ squeezes_S1_S_).sem = sendS n := by
  subst e; exact sendS_eq n h

/-- What lands where device `r`'s block belongs, when the slot it leaves from holds `w`. -/
theorem part_write (n r : ℕ) (h : n < 15) (hr : r < 16) (fs : (⟨S15x256x512, .bf16⟩ : BufTy).Contents (Elt F))
    (fd : (⟨S16x256x512, .bf16⟩ : BufTy).Contents (Elt F)) (w : FVec F S1x256x512 .bf16) (hs : ∀ x ∈ ySlot n, fs x = w (inY x))
    {x : S16x256x512.Idx} (hx : x ∈ rSlot r) :
    (rPart r hr).view.write (Elt F) fd ((yPart n h).view.read (Elt F) fs) Finset.univ x = w (inR x) := by
  rw [← rPart_set r hr] at hx
  obtain ⟨j, -, rfl⟩ := Finset.mem_map.mp hx
  rw [View.write_emb_of_mem (Val := Elt F) (v := (rPart r hr).view) fd _ (Finset.mem_univ j)]
  have hq := squeezes_S1x256x512_S256x512.numel_eq
  show fs ((rectY n h).emb (Shape.reshapeEquiv hq j)) = w (inR ((rectR r hr).emb (Shape.reshapeEquiv hq j)))
  rw [hs _ (mem_ySlot.mpr (rectY_zero n h _)), inY_emb, inR_emb]

/-! ## The copy of a step -/

theorem wp_send (out : Blocks F) (K : GSem nD τ sig → ℕ) (c : Dev nD) (W : Waits sig Unit) (n : ℕ) (hn : n < 15) (t : Dev nD) (ht : t = tgt c n)
    (src : Memref sig .tc .vmem S256x512 .bf16) (hs : src = yPart n hn) (dst : Memref sig .tc .vmem S256x512 .bf16) (hd : dst = rPart c.val c.isLt)
    (sem : DmaSem sig) (hsem : sem = sendS n) {hw : src.view.WordExact} {hw' : dst.view.WordExact}
    {hty : DmaTarget.Typed .vmem (.dma recvS) (.remote (Dev.tc t) dst (.dma sem))}
    (fs : Buf (Elt F) (yLoc c)) (hf : ∀ x ∈ ySlot n, fs x = out c (tgt c n) (inY x)) (k : P F) (Q : PUnit → sProp 𝕄) :
    iprop(invs out K ∗ yPts c n fs ∗ (∃ f, rPts (tgt c n) c.val f) ∗ owes (c : Thread nD τ) (owedRecv c n) W
        ∗ dutyTok ER (sendCell c n) 0 c ∗ reached ER (sendCell c n) 0
        ∗ dutyTok ER (recvCell (tgt c n)) 0 c ∗ reached ER (recvCell (tgt c n)) 0)
      ⊢ iprop((cred (tallyAt (sendCell c n) () N) ∗ owes (c : Thread nD τ) (owedRecv c (n + 1)) W -∗ run c k Q)
        -∗ run c (.op (.enqueueDma src (.remote (Dev.tc t) dst (.dma sem)) (.dma recvS) hw hw' hty) fun _ => k) Q) := by
  subst ht hs hd hsem
  iintro ⟨#HI, Hy, ⟨%fd, Hr⟩, HO, Ht, Hb, Ht', Hb'⟩ Hk
  iapply (Rounds.wp_send_pointsTo 𝒱₀ ER (Rd out) (c : Thread nD τ) none (c' := (tgt c n : Thread nD τ)) (src := yPart n hn)
    (dst := rPart c.val c.isLt) (sS := .dma (sendS n)) (sem := .dma recvS) (q := fullShare) (fs := fs) (fd := fd)
    (κ₁ := K (sendCell c n)) (κ₂ := K (recvCell (tgt c n))) (r₁ := 0) (r₂ := 0) (d₁ := c) (d₂ := c)
    (by rw [duties_send out c n hn]; exact Finset.mem_singleton_self c)
    (by rw [duties_recv]; exact Finset.mem_erase.mpr ⟨(tgt_ne c n (Finset.mem_Ico.mpr ⟨Nat.zero_le n, hn⟩)).symm, Finset.mem_univ _⟩)
    () () N rfl (amount_send out c n c) (amount_recv out (tgt c n) c) (O₀ := owedRecv c n) (owedRecv c (n + 1)) (owedRecv_step c n hn) (W := W)
    (by rw [payload_send out c n hn, yPart_set]; unfold sendPay; iintro H; iexists _; iexact H)
    (by
      rw [payload_recv, rPart_set]; unfold recvPay rPts
      exact Entails.of_eq (pointsTo_congr fun x hx => by
        rw [part_write n c.val hn c.isLt fs fd (out c (tgt c n)) hf hx]
        unfold landed
        rw [show (⟨(x 0).val, (x 0).isLt⟩ : Dev nD) = c from Fin.ext (mem_rSlot.mp hx)]))) $$ [Hy Hr HO Ht Hb Ht' Hb']
  · isplitr; · iapply (invs_send out K c n hn); iexact HI
    isplitr; · iapply (invs_recv out K (tgt c n)); iexact HI
    isplitl [Hy]; · rw [yPart_set]; iexact Hy
    isplitl [Hr]; · rw [rPart_set]; iexact Hr
    isplitl [HO]; · iexact HO
    isplitl [Ht]; · iexact Ht
    isplitl [Hb]; · iexact Hb
    isplitl [Ht']; · iexact Ht'
    iexact Hb'
  iintro ⟨Hc, HO⟩
  iapply Hk
  isplitl [Hc]; · iexact Hc
  iexact HO

theorem wp_copyOut (out : Blocks F) (K : GSem nD τ sig → ℕ) (c : Dev nD) (W : Waits sig Unit) (i : grid0.Coords) (h4 : k0_cond4 i = 1#1)
    (hn : (i 0).val < 15) (v : FVec F S256x512 .f32) (hv : k0_pay1 v = out c (tgt c (i 0).val)) (k : P F) (Q : PUnit → sProp 𝕄) :
    iprop(invs out K ∗ (∃ f, yPts c (i 0).val f) ∗ (∃ f, rPts (tgt c (i 0).val) c.val f) ∗ owes (c : Thread nD τ) (owedRecv c (i 0).val) W
        ∗ dutyTok ER (sendCell c (i 0).val) 0 c ∗ reached ER (sendCell c (i 0).val) 0
        ∗ dutyTok ER (recvCell (tgt c (i 0).val)) 0 c ∗ reached ER (recvCell (tgt c (i 0).val)) 0)
      ⊢ iprop((cred (tallyAt (sendCell c (i 0).val) () N) ∗ owes (c : Thread nD τ) (owedRecv c ((i 0).val + 1)) W -∗ run c k Q)
        -∗ run c (copyOut i h4 c v k) Q) := by
  unfold copyOut
  iintro ⟨#HI, ⟨%f, Hy⟩, Hr, HO, Hg⟩ Hk
  iapply (wp_load 𝒱₀ (c : Thread nD τ) none Set.univ (m := yM) (S := ySlot (i 0).val) (f := f) (unitY_load (k0_off2_eq i) hn _)) $$ Hy
  iintro Hy
  iapply (wp_store 𝒱₀ (c : Thread nD τ) none Set.univ (m := yM) (r := Rect.unit (s := S15x256x512) (k0_off2 i) S1x256x512.size (k0_off2_inb i h4))
    (w := k0_pay1 v) (Mk := Finset.univ) (S := ySlot (i 0).val) (f := f) (unitY_store (k0_off2_eq i) hn _)) $$ Hy
  iintro Hy
  iapply (wp_send out K c W (i 0).val hn _ (Fin.ext (dev16_eq i c)) _ (unitY_part (k0_off5_eq i) hn _) _ (unitR_part (k0_off4_eq c) c.isLt _) _
    (unitS_sem (k0_off3_eq i) hn _)
    ((yM.access (Rect.unit (s := S15x256x512) (k0_off2 i) S1x256x512.size (k0_off2_inb i h4))).write (Elt F) f (k0_pay1 v) Finset.univ)
    (fun x hx => by rw [unitY_write (k0_off2_eq i) hn _ f _ hx, hv]) k Q) $$ [Hy Hr HO Hg] [Hk]
  · isplitr; · iexact HI
    isplitl [Hy]; · iexact Hy
    isplitl [Hr]; · iexact Hr
    isplitl [HO]; · iexact HO
    iexact Hg
  iexact Hk

/-! ## The own block -/

theorem wp_keep (out : Blocks F) (c : Dev nD) (i : grid0.Coords) (h3 : k0_cond3 i = 1#1) (v : FVec F S1x256x512 .bf16) (hv : v = out c c)
    (k : P F) (Q : PUnit → sProp 𝕄) :
    iprop(∃ f, rPts c c.val f)
      ⊢ iprop((rPts c c.val (landed out c) -∗ run c k Q) -∗ run c (keep i h3 c v k) Q) := by
  unfold keep
  iintro ⟨%f, Hr⟩ Hk
  iapply (wp_load 𝒱₀ (c : Thread nD τ) none Set.univ (m := rM) (S := rSlot c.val) (f := f) (unitR_load (k0_off1_eq c) c.isLt _)) $$ Hr
  iintro Hr
  iapply (wp_store 𝒱₀ (c : Thread nD τ) none Set.univ (m := rM) (r := Rect.unit (s := S16x256x512) (k0_off1 c) S1x256x512.size (k0_off1_inb i c h3))
    (w := v) (Mk := Finset.univ) (S := rSlot c.val) (f := f) (unitR_store (k0_off1_eq c) c.isLt _)) $$ Hr
  iintro Hr
  iapply Hk
  ihave H := (Entails.of_eq (pointsTo_congr (g := landed out c) fun x hx => by
    rw [unitR_write (k0_off1_eq c) c.isLt _ f _ hx, hv]
    unfold landed
    rw [show (⟨(x 0).val, (x 0).isLt⟩ : Dev nD) = c from Fin.ext (mem_rSlot.mp hx)])) $$ Hr
  iexact H

end Cert.KernelIdeal.Exchange

end
-- ==== Proof.Waits.lean ====
/- The waits of the last step: each own copy, and fifteen arrivals, of which only all together hand over contents; then
   the whole receive buffer is read into the result block. -/
module

public import proofs.«01_k».proof.Proof.Copy

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A device that owes nothing. -/
def idle (c : Dev nD) : sProp 𝕄 := iprop(∃ W, owes (c : Thread nD τ) (0 : CellTallies nD τ sig Unit) W)

/-- The copy of step `n` under way, and over. -/
def copying (c : Dev nD) (n : ℕ) : sProp 𝕄 := iprop(atPos ER (sendCell c n) 0 ∅ 0 ∗ cred (tallyAt (sendCell c n) () N))
def copied (c : Dev nD) (n : ℕ) : sProp 𝕄 := iprop(atPos ER (sendCell c n) 1 ∅ 0 ∗ sendPay c n)

/-- `n` arrivals waited for: whose, is not known, only that the contents they brought are in hand. -/
def arriving (out : Blocks F) (c : Dev nD) (n : ℕ) : sProp 𝕄 :=
  iprop(∃ T : Finset (Dev nD), ⌜T ⊆ Finset.univ.erase c⌝ ∗ atPos ER (recvCell c) 0 T (n * N) ∗ bigSep T (recvPay out c))
def arrived (out : Blocks F) (c : Dev nD) : sProp 𝕄 :=
  iprop(atPos ER (recvCell c) 1 ∅ 0 ∗ bigSep (Finset.univ.erase c) (recvPay out c))

variable (out : Blocks F) (K : GSem nD τ sig → ℕ) (c : Dev nD)

theorem rest_send (n : ℕ) (h : n < 15) :
    (bigSep ((Rd out).duties (sendCell c n) 0 \ ∅) (fun d => (Rd out).payload (sendCell c n) 0 d) : sProp 𝕄) = sendPay c n := by
  rw [duties_send out c n h, Finset.sdiff_empty, bigSep_singleton, payload_send out c n h]

theorem pay_recv (s : Finset (Dev nD)) :
    (bigSep s (fun d => (Rd out).payload (recvCell c) 0 d) : sProp 𝕄) = bigSep s (recvPay out c) := by
  congr 1

theorem pay_join {T S : Finset (Dev nD)} (h : T ⊆ S) :
    (bigSep S (recvPay out c) : sProp 𝕄) = iprop(bigSep T (recvPay out c) ∗ bigSep (S \ T) (recvPay out c)) := by
  have hu := BI.bigSep_union (Finset.disjoint_sdiff (s := T) (t := S)) (Φ := recvPay out c)
  rwa [Finset.union_sdiff_of_subset h] at hu

theorem wp_waitSend (n : ℕ) (h : n < 15) (sem : DmaSem sig) (hs : sem = sendS n) {hw hw' : (yPart n h).view.WordExact} (k : P F) (Q : PUnit → sProp 𝕄) :
    iprop(invs out K ∗ idle c ∗ copying c n)
      ⊢ iprop((idle c ∗ copied c n -∗ run c k Q) -∗ run c (.op (.waitDma2 sem (yPart n h) (yPart n h) hw hw') fun _ => k) Q) := by
  subst hs
  unfold idle copying copied
  iintro ⟨#HI, ⟨%W, HO⟩, Hat, Hc⟩ Hk
  iapply (Rounds.wp_wait_rest_token 𝒱₀ ER (Rd out) (c : Thread nD τ) none (κ := K (sendCell c n))
      (wpE_waitDma2_eq (src := yPart n h) (dst := yPart n h) 𝒱₀ (c : Thread nD τ) none Set.univ) (Set.mem_univ _) () (O := 0) (W := W) (R := 0) (m := 0) (T := ∅)
      ((Nat.zero_add _).trans (expect_send out c n h).symm)) $$ [Hc HO Hat]
  · isplitr; · iapply (invs_send out K c n h); iexact HI
    isplitl [Hc]; · iexact Hc
    isplitl [HO]; · iexact HO
    isplitr; · rw [MayWait_zero]; iempintro
    iexact Hat
  iintro ⟨HO, Hat, -, Hpay⟩
  ihave Hp := (Entails.of_eq (rest_send out c n h)) $$ Hpay
  iapply Hk
  isplitl [HO]; · iexists _; iexact HO
  isplitl [Hat]; · iexact Hat
  iexact Hp

theorem wp_waitRecv (n : ℕ) (h : n < 14) {m : Memref sig .tc .vmem S256x512 .bf16} (hm : m.view.dmaCredit = N) {hw hw' : m.view.WordExact} (k : P F) (Q : PUnit → sProp 𝕄) :
    iprop(invs out K ∗ idle c ∗ arriving out c n ∗ cred (tallyAt (recvCell c) () N))
      ⊢ iprop((idle c ∗ arriving out c (n + 1) -∗ run c k Q) -∗ run c (.op (.waitDma2 recvS m m hw hw') fun _ => k) Q) := by
  unfold idle arriving
  iintro ⟨#HI, ⟨%W, HO⟩, ⟨%T, %hT, Hat, HT⟩, Hc⟩ Hk
  iapply (Rounds.wp_wait 𝒱₀ ER (Rd out) (c : Thread nD τ) none (κ := K (recvCell c)) (k' := m.view.dmaCredit)
      (wpE_waitDma2_eq (src := m) (dst := m) 𝒱₀ (c : Thread nD τ) none Set.univ) (Set.mem_univ _) (O := 0) (W := W) {(.dma recvS, ())} (R := 0) (m := n * N) (T := T)
      (cr := Finsupp.single () N) (by rw [Util.total_single, hm]) (image_single_subset (.dma recvS) () N)) $$ [Hc HO Hat]
  · isplitr; · iapply (invs_recv out K c); iexact HI
    isplitl [Hc]; · iexact Hc
    isplitl [HO]; · iexact HO
    isplitr
    · have hz : (BI.emp : sProp 𝕄) ⊢ MayWait (c : Thread nD τ) (.dma recvS) () (0 : CellTallies nD τ sig Unit) := by rw [MayWait_zero]
      iapply hz
      iempintro
    iexact Hat
  iintro %S ⟨%hS, HO, Hat, HS⟩
  rw [duties_recv] at hS
  ihave HS' := (Entails.of_eq (pay_recv out c (S \ T))) $$ HS
  iapply Hk
  isplitl [HO]; · iexists _; iexact HO
  iexists S
  isplitr; · ipureintro; exact hS.2.1
  isplitl [Hat]
  · rw [show (n + 1) * N = n * N + m.view.dmaCredit from by rw [hm, Nat.succ_mul]]; iexact Hat
  rw [pay_join out c hS.1]
  isplitl [HT]; · iexact HT
  iexact HS'

theorem wp_waitLast {m : Memref sig .tc .vmem S256x512 .bf16} (hm : m.view.dmaCredit = N) {hw hw' : m.view.WordExact} (k : P F) (Q : PUnit → sProp 𝕄) :
    iprop(invs out K ∗ idle c ∗ arriving out c 14 ∗ cred (tallyAt (recvCell c) () N))
      ⊢ iprop((idle c ∗ arrived out c -∗ run c k Q) -∗ run c (.op (.waitDma2 recvS m m hw hw') fun _ => k) Q) := by
  unfold idle arriving arrived
  iintro ⟨#HI, ⟨%W, HO⟩, ⟨%T, %hT, Hat, HT⟩, Hc⟩ Hk
  rw [← hm]
  iapply (Rounds.wp_wait_rest_token 𝒱₀ ER (Rd out) (c : Thread nD τ) none (κ := K (recvCell c)) (k' := m.view.dmaCredit)
      (wpE_waitDma2_eq (src := m) (dst := m) 𝒱₀ (c : Thread nD τ) none Set.univ) (Set.mem_univ _) () (O := 0) (W := W) (R := 0) (m := 14 * m.view.dmaCredit) (T := T)
      (by rw [expect_recv, hm, ← Nat.succ_mul])) $$ [Hc HO Hat]
  · isplitr; · iapply (invs_recv out K c); iexact HI
    isplitl [Hc]; · iexact Hc
    isplitl [HO]; · iexact HO
    isplitr; · rw [MayWait_zero]; iempintro
    iexact Hat
  iintro ⟨HO, Hat, -, HS⟩
  ihave HS' := (Entails.of_eq (pay_recv out c _)) $$ HS
  iapply Hk
  isplitl [HO]; · iexists _; iexact HO
  isplitl [Hat]; · iexact Hat
  rw [pay_join out c hT]
  isplitl [HT]; · iexact HT
  rw [duties_recv]
  iexact HS'

theorem cred_step (k : ℕ) : (cred (tallyAt (recvCell c) () ((k + 1) * N)) : sProp 𝕄)
    ⊢ iprop(cred (tallyAt (recvCell c) () N) ∗ cred (tallyAt (recvCell c) () (k * N))) := by
  rw [Nat.succ_mul, Nat.add_comm, ← tallyAt_add]
  exact (cred_add _ _).1

theorem wp_waits (kont : P F) (Q : PUnit → sProp 𝕄) : ∀ (k n : ℕ) (h : n + (k + 1) = 15),
    iprop(invs out K ∗ idle c ∗ arriving out c n ∗ cred (tallyAt (recvCell c) () ((k + 1) * N)) ∗ bigSep (Finset.Ico n 15) (copying c))
      ⊢ iprop((idle c ∗ arrived out c ∗ bigSep (Finset.Ico n 15) (copied c) -∗ run c kont Q) -∗ run c (waits (k + 1) n h kont) Q)
  | 0, n, h => by
    obtain rfl : n = 14 := by omega
    have h14 : 14 < 15 := by decide
    rw [bigSep_Ico_step (show 14 < 15 by decide), bigSep_Ico_step (show 14 < 15 by decide), bigSep_Ico_end (le_refl 15), bigSep_Ico_end (le_refl 15)]
    unfold waits waits
    iintro ⟨#HI, HO, Ha, Hc, Hn, -⟩ Hk
    iapply (wp_waitSend out K c 14 h14 _ (sendS_eq 14 h14) _ Q) $$ [HO Hn]
    · isplitr; · iexact HI
      isplitl [HO]; · iexact HO
      iexact Hn
    iintro ⟨HO, Hn⟩
    iapply (wp_waitLast out K c (m := yPart 14 _) rfl kont Q) $$ [HO Ha Hc]
    · isplitr; · iexact HI
      isplitl [HO]; · iexact HO
      isplitl [Ha]; · iexact Ha
      rw [Nat.zero_add, Nat.one_mul]
      iexact Hc
    iintro ⟨HO, Ha⟩
    iapply Hk
    isplitl [HO]; · iexact HO
    isplitl [Ha]; · iexact Ha
    isplitl [Hn]; · iexact Hn
    iempintro
  | k + 1, n, h => by
    have hn : n < 15 := by omega
    rw [bigSep_Ico_step (show n < 15 by omega), bigSep_Ico_step (show n < 15 by omega)]
    unfold waits
    iintro ⟨#HI, HO, Ha, Hc, Hn, Hrest⟩ Hk
    ihave Hc2 := (cred_step c (k + 1)) $$ Hc
    icases Hc2 with ⟨Hc, Hcs⟩
    iapply (wp_waitSend out K c n hn _ (sendS_eq n hn) _ Q) $$ [HO Hn]
    · isplitr; · iexact HI
      isplitl [HO]; · iexact HO
      iexact Hn
    iintro ⟨HO, Hn⟩
    iapply (wp_waitRecv out K c n (by omega) (m := yPart n _) rfl _ Q) $$ [HO Ha Hc]
    · isplitr; · iexact HI
      isplitl [HO]; · iexact HO
      isplitl [Ha]; · iexact Ha
      iexact Hc
    iintro ⟨HO, Ha⟩
    iapply (wp_waits kont Q k (n + 1) _) $$ [HO Ha Hcs Hrest]
    · isplitr; · iexact HI
      isplitl [HO]; · iexact HO
      isplitl [Ha]; · iexact Ha
      isplitl [Hcs]; · iexact Hcs
      iexact Hrest
    iintro ⟨HO, Ha, Hrest⟩
    iapply Hk
    isplitl [HO]; · iexact HO
    isplitl [Ha]; · iexact Ha
    isplitl [Hn]; · iexact Hn
    iexact Hrest

/-! ## The result -/

/-- The receive buffer put together from its slots. -/
theorem rWhole (f : Buf (Elt F) (rLoc c)) :
    (rLoc c ↦{fullShare} f : sProp 𝕄) = iprop(rPts c c.val f ∗ bigSep (Finset.univ.erase c) fun d => rPts c d.val f) := by
  have hp := bigSep_put (Finset.notMem_erase c Finset.univ) (fun d : Dev nD => (rPts c d.val f : sProp 𝕄))
  rw [Finset.insert_erase (Finset.mem_univ c)] at hp
  refine Eq.trans ?_ hp
  refine (congrArg (fun S => (rLoc c ↦[S]{fullShare} f : sProp 𝕄)) ?_).trans
    (pointsTo_biUnion (ℓ := rLoc c) (q := fullShare) (f := f) (Finset.univ : Finset (Dev nD)) (fun d => rSlot d.val)
      fun d _ d' _ hd => rSlot_disjoint _ _ fun e => hd (Fin.ext e))
  refine Finset.ext fun x => ⟨fun _ => Finset.mem_biUnion.mpr ⟨⟨(x 0).val, (x 0).isLt⟩, Finset.mem_univ _, mem_rSlot.mpr rfl⟩, fun _ => Finset.mem_univ _⟩

theorem wp_gather (a6 : Memref sig .tc .vmem S4096x512 .f32) (Q : PUnit → sProp 𝕄) :
    iprop((rLoc c ↦{fullShare} landed out c) ∗ ∃ X, owns (c : Thread nD τ) a6 fullShare X)
      ⊢ iprop(((rLoc c ↦{fullShare} landed out c) ∗ owns (c : Thread nD τ) a6 fullShare (k0_pay2 (landed out c)) -∗ Q ⟨⟩)
        -∗ run c (gather a6) Q) := by
  unfold gather
  iintro ⟨Hr, %X, HX⟩ Hk
  ihave Hr := (Entails.of_eq (owns_whole_eq (c : Thread nD τ) cc0_scratch2 fullShare (landed out c)).symm) $$ [Hr]
  · iexists _
    isplitr; · ipureintro; rfl
    iexact Hr
  iapply (owned_load c rM zero3 _ (landed out c) _ Q) $$ Hr; iintro Hr
  iapply (owned_load c a6 zero2 _ X _ Q) $$ HX; iintro HX
  iapply (owned_store c a6 zero2 _ (k0_pay2 (landed out c)) X _ Q) $$ HX; iintro HX
  rw [run, wp_ret]
  imodintro
  iapply Hk
  isplitl [Hr]
  · ihave Hr := (Entails.of_eq (owns_whole_eq (c : Thread nD τ) cc0_scratch2 fullShare (landed out c))) $$ Hr
    icases Hr with ⟨%f, %hf, Hr⟩
    subst hf
    iexact Hr
  iexact HX

end Cert.KernelIdeal.Exchange

end
-- ==== Proof.Steps.lean ====
/- The three kinds of grid step, each as a rule: what a device holds before the step, and what it holds after it. -/
module

public import proofs.«01_k».proof.Proof.Waits
public import Idealize.ShloMosaic.Lib.Rounds.Family

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Holdings

variable (out : Blocks F) (K : GSem nD τ sig → ℕ) (c : Dev nD)

/-- What step `n` needs of the device itself. -/
def ready (n : ℕ) : sProp 𝕄 :=
  iprop((∃ f, yPts c n f) ∗ dutyTok ER (sendCell c n) 0 c ∗ reached ER (sendCell c n) 0 ∗ dutyTok ER (recvCell (tgt c n)) 0 c
    ∗ atPos ER (sendCell c n) 0 ∅ 0)

/-- What step `n` needs once the device it sends to has entered. -/
def pend (n : ℕ) : sProp 𝕄 := iprop(ready c n ∗ barPay c (tgt c n))

/-- A device before its first step. -/
def entering : sProp 𝕄 :=
  iprop(invs out K ∗ levAts L lv ∗ reached ER (recvCell c) 0 ∗ bigSep (Finset.Ico 1 16) (toSignal c) ∗ (∃ f, rPts c c.val f)
    ∗ bigSep (Finset.Ico 0 15) (ready c) ∗ atPos ER (barCell c) 0 ∅ 0 ∗ atPos ER (recvCell c) 0 ∅ 0
    ∗ cred (tallyAt (barCell c) () 15) ∗ cred (tallyAt (recvCell c) () (15 * N))
    ∗ ∃ f, owns (c : Thread nD τ) qM fullShare f)

/-- A device before step `n`, from the second on; `X` is the widened block. -/
def between (X : FVec F S256x4096 .bf16) (n : ℕ) : sProp 𝕄 :=
  iprop(invs out K ∗ (∃ f, rPts c c.val f) ∗ bigSep (Finset.Ico 0 n) (copying c) ∗ bigSep (Finset.Ico n 15) (pend c)
    ∗ atPos ER (barCell c) 1 ∅ 0 ∗ atPos ER (recvCell c) 0 ∅ 0 ∗ cred (tallyAt (recvCell c) () (15 * N))
    ∗ owns (c : Thread nD τ) qM fullShare X)

/-- A device after its last step: every semaphore back at zero, every scratch buffer back. -/
def finished : sProp 𝕄 :=
  iprop(semVal (barCell c) 0 ∗ (bigSep (Finset.Ico 0 15) fun n => semVal (sendCell c n) 0) ∗ semVal (recvCell c) 0
    ∗ (∃ f, owns (c : Thread nD τ) qM fullShare f) ∗ (∃ f, yLoc c ↦{fullShare} f) ∗ ∃ f, rLoc c ↦{fullShare} f)

theorem pend_all : iprop(bigSep (Finset.Ico 0 15) (ready c) ∗ bigSep (Finset.Ico 0 15) fun n => barPay c (tgt c n))
    ⊢ (bigSep (Finset.Ico 0 15) (pend c) : sProp 𝕄) := by
  unfold pend
  rw [bigSep_sep']

theorem copying_step (n : ℕ) : iprop(bigSep (Finset.Ico 0 n) (copying c) ∗ copying c n) ⊢ (bigSep (Finset.Ico 0 (n + 1)) (copying c) : sProp 𝕄) := by
  rw [show Finset.Ico 0 (n + 1) = insert n (Finset.Ico 0 n) from by ext k; simp only [Finset.mem_Ico, Finset.mem_insert]; omega,
    bigSep_put (by simp)]
  iintro ⟨H, H1⟩
  isplitl [H1]; · iexact H1
  iexact H

/-- The send buffer, whole, from its fifteen slots at whatever they hold. -/
theorem yWhole (o : Blocks F) (c : Dev nD) : (bigSep (Finset.Ico 0 15) (sendPay c) : sProp 𝕄) ⊢ iprop(∃ f, yLoc c ↦{fullShare} f) := by
  have hy : Nonempty (Buf (Elt F) (yLoc c)) := ⟨staged o c⟩
  unfold sendPay
  iintro H
  ihave H := (bigSep_exists_pi (Finset.Ico 0 15) fun n f => yPts c n f) $$ H
  icases H with ⟨%g, H⟩
  ihave H := (pointsTo_biUnion_join (ℓ := yLoc c) (q := fullShare) (Finset.Ico 0 15) ySlot g (g 0)
    fun a _ b _ h => ySlot_disjoint a b h) $$ H
  icases H with ⟨%f, -, H⟩
  rw [ySlot_cover]
  iexists f
  iexact H

/-- The send buffer, whole, as its fifteen slots. -/
theorem ySplit : iprop(∃ f, yLoc c ↦{fullShare} f) ⊢ (bigSep (Finset.Ico 0 15) fun n => iprop(∃ f, yPts c n f) : sProp 𝕄) := by
  iintro ⟨%f, H⟩
  ihave H := (Entails.of_eq (show (yLoc c ↦{fullShare} f : sProp 𝕄) = bigSep (Finset.Ico 0 15) fun n => yPts c n f from
    (congrArg (fun S => (yLoc c ↦[S]{fullShare} f : sProp 𝕄)) ySlot_cover.symm).trans
      (pointsTo_biUnion (ℓ := yLoc c) (q := fullShare) (f := f) (Finset.Ico 0 15) ySlot fun a _ b _ h => ySlot_disjoint a b h))) $$ H
  iapply (show (bigSep (Finset.Ico 0 15) fun n => yPts c n f : sProp 𝕄) ⊢ bigSep (Finset.Ico 0 15) fun n => iprop(∃ f, yPts c n f) from
    bigSep_mono fun n _ => (show yPts c n f ⊢ iprop(∃ f, yPts c n f) from by iintro H; iexists f; iexact H)) $$ H

/-- After the last wait every semaphore of the device can be taken back at zero. -/
theorem close_all : iprop(invs out K ∗ atPos ER (barCell c) 1 ∅ 0 ∗ atPos ER (recvCell c) 1 ∅ 0
      ∗ bigSep (Finset.Ico 0 15) fun n => atPos ER (sendCell c n) 1 ∅ 0)
    ⊢ (|={Set.univ}=> iprop(semVal (barCell c) 0 ∗ (bigSep (Finset.Ico 0 15) fun n => semVal (sendCell c n) 0) ∗ semVal (recvCell c) 0) : sProp 𝕄) := by
  iintro ⟨#HI, Hb, Hr, Hs⟩
  imod (Rounds.cell_close ER (Rd out) (Set.mem_univ (K (barCell c))) id (duties_later out (barCell c))) $$ [Hb] with Hb0
  · isplitr; · iapply (invs_bar out K c); iexact HI
    iexact Hb
  imod (Rounds.cell_close ER (Rd out) (Set.mem_univ (K (recvCell c))) id (duties_later out (recvCell c))) $$ [Hr] with Hr0
  · isplitr; · iapply (invs_recv out K c); iexact HI
    iexact Hr
  imod (Rounds.cells_close ER (Rd out) (Finset.Ico 0 15) (sendCell c) (fun n => K (sendCell c n)) (fun _ _ => Set.mem_univ _) (fun _ _ => id)
      (fun _ => 1) (fun n _ => duties_later out (sendCell c n))) $$ [Hs] with Hs0
  · iapply (bigSep_with_persistent (R := invs out K) (Φ := fun n => (atPos ER (sendCell c n) 1 ∅ 0 : sProp 𝕄)) (S := Finset.Ico 0 15) (fun n hn => by
      iintro ⟨#HI, H⟩
      isplitr; · iapply (invs_send out K c n (Finset.mem_Ico.mp hn).2); iexact HI
      iexact H))
    isplitr; · iexact HI
    iexact Hs
  imodintro
  isplitl [Hb0]; · iexact Hb0
  isplitl [Hs0]; · iexact Hs0
  iexact Hr0

end Holdings

section Rules

variable (a2 : Memref sig .tc .vmem S256x4096 .fp8e4m3) (h2 : a2.IsWhole)
  (a3 : Memref sig .tc .vmem S4096x512 .fp8e5m2) (h3 : a3.IsWhole)
  (a4 : Memref sig .tc .smem S1 .f32) (h4 : a4.IsWhole) (a5 : Memref sig .tc .smem S1 .f32) (h5 : a5.IsWhole)
  (a6 : Memref sig .tc .vmem S4096x512 .f32) (h6 : a6.IsWhole)
  (i : grid0.Coords) (a1 : Memref sig .tc .smem S1 .i32) (h1 : a1.IsWhole)
  (out : Blocks F) (K : GSem nD τ sig → ℕ) (c : Dev nD) (W : Waits sig Unit)
  (X : FVec F S256x4096 .fp8e4m3) (B : FVec F S4096x512 .fp8e5m2) (S T : S1.Idx → Elt F .f32)

/-- The four operands in their staging buffers. -/
def staging : sProp 𝕄 :=
  iprop(owns (c : Thread nD τ) a2 fullShare X ∗ owns (c : Thread nD τ) a3 fullShare B ∗ owns (c : Thread nD τ) a4 fullShare S
    ∗ owns (c : Thread nD τ) a5 fullShare T)

/-- A copying step, from the operands on. -/
theorem wp_mid (Q : PUnit → sProp 𝕄) (c4 : k0_cond4 i = 1#1) (n : ℕ) (hi : (i 0).val = n) (hn : n < 15)
    (hv : k0_pay1 (k0_pay4 (word S) (word T) B (k0_pay3 X)) = out c (tgt c n)) :
    iprop(between out K c (k0_pay3 X) n ∗ owes (c : Thread nD τ) (owedRecv c n) W ∗ staging a2 a3 a4 a5 c X B S T)
      ⊢ iprop((between out K c (k0_pay3 X) (n + 1) ∗ owes (c : Thread nD τ) (owedRecv c (n + 1)) W ∗ staging a2 a3 a4 a5 c X B S T -∗ Q ⟨⟩)
        -∗ run c (operands a3 a4 a5 fun p q w x => copyOut i c4 c (k0_pay4 p q w x) (.ret ⟨⟩)) Q) := by
  subst hi
  unfold between staging
  rw [bigSep_Ico_step hn]
  iintro ⟨⟨#HI, Hown, Hcop, ⟨Hp, Hpend⟩, HaB, HaV, HcV, Hq⟩, HO, H2, H3, H4, H5⟩ Hk
  iapply (wp_operands a3 a4 a5 c Q S T B (k0_pay3 X)) $$ [H3 H4 H5 Hq]
  · isplitl [H4]; · iexact H4
    isplitl [H5]; · iexact H5
    isplitl [H3]; · iexact H3
    iexact Hq
  iintro ⟨H4, H5, H3, Hq⟩
  unfold pend ready barPay
  icases Hp with ⟨⟨Hy, HtS, #HrS, HtV, HaS⟩, Hr, #HrV⟩
  iapply (wp_copyOut out K c W i c4 hn _ hv (.ret ⟨⟩) Q) $$ [Hy Hr HO HtS HtV]
  · isplitr; · iexact HI
    isplitl [Hy]; · iexact Hy
    isplitl [Hr]; · iexact Hr
    isplitl [HO]; · iexact HO
    isplitl [HtS]; · iexact HtS
    isplitr; · iexact HrS
    isplitl [HtV]; · iexact HtV
    iexact HrV
  iintro ⟨HcS, HO⟩
  unfold run
  rw [wp_ret]
  imodintro
  iapply Hk
  isplitr [HO H2 H3 H4 H5]
  · isplitr; · iexact HI
    isplitl [Hown]; · iexact Hown
    isplitl [Hcop HaS HcS]
    · iapply (copying_step c (i 0).val)
      isplitl [Hcop]; · iexact Hcop
      unfold copying
      isplitl [HaS]; · iexact HaS
      iexact HcS
    isplitl [Hpend]; · iexact Hpend
    isplitl [HaB]; · iexact HaB
    isplitl [HaV]; · iexact HaV
    isplitl [HcV]; · iexact HcV
    iexact Hq
  isplitl [HO]; · iexact HO
  isplitl [H2]; · iexact H2
  isplitl [H3]; · iexact H3
  isplitl [H4]; · iexact H4
  iexact H5

/-- A step that is neither the first nor the last. -/
theorem wp_step_mid (Q : PUnit → sProp 𝕄) (n : ℕ) (hi : (i 0).val = n) (hn : n < 15) (h0 : n ≠ 0)
    (hv : k0_pay1 (k0_pay4 (word S) (word T) B (k0_pay3 X)) = out c (tgt c n)) :
    iprop(between out K c (k0_pay3 X) n ∗ owes (c : Thread nD τ) (owedRecv c n) W ∗ staging a2 a3 a4 a5 c X B S T)
      ⊢ iprop((between out K c (k0_pay3 X) (n + 1) ∗ owes (c : Thread nD τ) (owedRecv c (n + 1)) W ∗ staging a2 a3 a4 a5 c X B S T -∗ Q ⟨⟩)
        -∗ run c (step a2 h2 a3 h3 a4 h4 a5 h5 a6 h6 i a1 h1) Q) := by
  rw [step_mid a2 h2 a3 h3 a4 h4 a5 h5 a6 h6 i a1 h1 (cond1_of_pos i (by rw [hi]; exact h0)) (cond3_of_lt i (by rw [hi]; exact hn))
    (cond4_of i (by rw [hi]; exact hn)) (cond5_of_lt i (by rw [hi]; exact hn))]
  unfold run
  rw [wp_deviceId]
  exact wp_mid a2 a3 a4 a5 i out K c W X B S T Q _ n hi hn hv

/-- The first step: the entry, the widening, the first copy. -/
theorem wp_step_first (Q : PUnit → sProp 𝕄) (hi : (i 0).val = 0)
    (hv : k0_pay1 (k0_pay4 (word S) (word T) B (k0_pay3 X)) = out c (tgt c 0)) :
    iprop(entering out K c ∗ owes (c : Thread nD τ) (O₀ c) W ∗ staging a2 a3 a4 a5 c X B S T)
      ⊢ iprop((between out K c (k0_pay3 X) 1 ∗ (∃ W, owes (c : Thread nD τ) (owedRecv c 1) W) ∗ staging a2 a3 a4 a5 c X B S T -∗ Q ⟨⟩)
        -∗ run c (step a2 h2 a3 h3 a4 h4 a5 h5 a6 h6 i a1 h1) Q) := by
  have h15 : 0 < 15 := by decide
  rw [step_first a2 h2 a3 h3 a4 h4 a5 h5 a6 h6 i a1 h1 (cond1_of_zero i hi) (cond3_of_lt i (by rw [hi]; exact h15))
    (cond4_of i (by rw [hi]; exact h15)) (cond5_of_lt i (by rw [hi]; exact h15))]
  unfold run
  rw [wp_deviceId]
  unfold entering O₀ signalled
  iintro ⟨⟨#HI, #Hlev, #HrV, Hsig, Hown, Hready, HaB, HaV, HcB, HcV, Hq⟩, HO, Hst⟩ Hk
  iapply (wp_signals out K c W _ Q 15 1 rfl (le_refl 1)) $$ [HO Hsig]
  · isplitr; · iexact HI
    isplitr; · iexact HrV
    isplitl [HO]; · iexact HO
    iexact Hsig
  iintro HO
  iapply (wp_enter out K c W _ Q) $$ [HO HcB HaB]
  · isplitr; · iexact HI
    isplitr; · iexact Hlev
    isplitl [HO]; · iexact HO
    isplitl [HcB]; · iexact HcB
    iexact HaB
  iintro ⟨⟨%W', HO⟩, HaB, Hpay⟩
  ihave Hpend := (pend_all c) $$ [Hready Hpay]
  · isplitl [Hready]; · iexact Hready
    iexact Hpay
  unfold staging
  icases Hst with ⟨H2, H3, H4, H5⟩
  iapply (wp_widen a2 c Q X _) $$ [H2 Hq]
  · isplitl [H2]; · iexact H2
    iexact Hq
  iintro ⟨H2, Hq⟩
  iapply (wp_mid a2 a3 a4 a5 i out K c W' X B S T Q _ 0 hi h15 hv) $$ [-Hk]
  · unfold between staging
    isplitr [HO H2 H3 H4 H5]
    · isplitr; · iexact HI
      isplitl [Hown]; · iexact Hown
      isplitr; · rw [bigSep_Ico_end (le_refl 0)]; iempintro
      isplitl [Hpend]; · iexact Hpend
      isplitl [HaB]; · iexact HaB
      isplitl [HaV]; · iexact HaV
      isplitl [HcV]; · iexact HcV
      iexact Hq
    isplitl [HO]; · iexact HO
    isplitl [H2]; · iexact H2
    isplitl [H3]; · iexact H3
    isplitl [H4]; · iexact H4
    iexact H5
  iintro ⟨Hb, HO, Hst⟩
  iapply Hk
  isplitl [Hb]; · iexact Hb
  isplitl [HO]; · iexists W'; iexact HO
  unfold staging
  iexact Hst

/-- The last step: the own block, the waits, the result. -/
theorem wp_step_last (Q : PUnit → sProp 𝕄) (hi : (i 0).val = 15)
    (hv : k0_pay5 (word S) (word T) B (k0_pay3 X) = out c c) :
    iprop(between out K c (k0_pay3 X) 15 ∗ owes (c : Thread nD τ) (owedRecv c 15) W ∗ staging a2 a3 a4 a5 c X B S T
        ∗ ∃ Y, owns (c : Thread nD τ) a6 fullShare Y)
      ⊢ iprop((finished c ∗ idle c ∗ staging a2 a3 a4 a5 c X B S T ∗ owns (c : Thread nD τ) a6 fullShare (k0_pay2 (landed out c)) -∗ Q ⟨⟩)
        -∗ run c (step a2 h2 a3 h3 a4 h4 a5 h5 a6 h6 i a1 h1) Q) := by
  rw [step_last a2 h2 a3 h3 a4 h4 a5 h5 a6 h6 i a1 h1 (cond1_of_pos i (by rw [hi]; decide)) (cond3_of_last i hi)
    (cond4_of_last i hi) (cond5_of_last i hi), owedRecv_end c 15 (le_refl 15)]
  have hfupd : ∀ (p : P F) (Q : PUnit → sProp 𝕄), run c p (fun u => iprop(|={Set.univ}=> Q u)) ⊢ run c p Q := fun p Q => wp_fupd _ _ _ p Q
  unfold run
  rw [wp_deviceId]
  unfold between staging
  iintro ⟨⟨#HI, Hown, Hcop, -, HaB, HaV, HcV, Hq⟩, HO, ⟨H2, H3, H4, H5⟩, H6⟩ Hk
  iapply (wp_operands a3 a4 a5 c Q S T B (k0_pay3 X)) $$ [H3 H4 H5 Hq]
  · isplitl [H4]; · iexact H4
    isplitl [H5]; · iexact H5
    isplitl [H3]; · iexact H3
    iexact Hq
  iintro ⟨H4, H5, H3, Hq⟩
  iapply (wp_keep out c i _ _ hv _ Q) $$ Hown
  iintro Hown
  iapply (wp_waits out K c _ Q 14 0 rfl) $$ [HO HaV HcV Hcop]
  · isplitr; · iexact HI
    isplitl [HO]; · unfold idle; iexists W; iexact HO
    isplitl [HaV]
    · unfold arriving
      iexists ∅
      isplitr; · ipureintro; exact Finset.empty_subset _
      rw [Nat.zero_mul, bigSep_empty]
      isplitl [HaV]; · iexact HaV
      iempintro
    isplitl [HcV]; · iexact HcV
    iexact Hcop
  iintro ⟨HO, Harr, Hcopd⟩
  unfold arrived
  icases Harr with ⟨HaV, Hrest⟩
  iapply (hfupd _ Q)
  iapply (wp_gather out c a6 _) $$ [Hown Hrest H6]
  · isplitl [Hown Hrest]
    · rw [rWhole]
      isplitl [Hown]; · iexact Hown
      iexact Hrest
    · iexact H6
  iintro ⟨Hr, H6⟩
  unfold copied
  ihave Hcopd := (Entails.of_eq (bigSep_sep' (Finset.Ico 0 15) (fun n => (atPos ER (sendCell c n) 1 ∅ 0 : sProp 𝕄)) (sendPay c))) $$ Hcopd
  icases Hcopd with ⟨HaS, Hy⟩
  imod (close_all out K c) $$ [HaB HaV HaS] with ⟨Hb0, Hs0, Hr0⟩
  · isplitr; · iexact HI
    isplitl [HaB]; · iexact HaB
    isplitl [HaV]; · iexact HaV
    iexact HaS
  imodintro
  iapply Hk
  unfold finished
  isplitl [Hb0 Hs0 Hr0 Hq Hy Hr]
  · isplitl [Hb0]; · iexact Hb0
    isplitl [Hs0]; · iexact Hs0
    isplitl [Hr0]; · iexact Hr0
    isplitl [Hq]; · iexists _; iexact Hq
    isplitl [Hy]; · iapply (yWhole out c); iexact Hy
    iexists _; iexact Hr
  isplitl [HO]; · iexact HO
  isplitl [H2 H3 H4 H5]
  · isplitl [H2]; · iexact H2
    isplitl [H3]; · iexact H3
    isplitl [H4]; · iexact H4
    iexact H5
  iexact H6

end Rules

end Cert.KernelIdeal.Exchange

end
-- ==== Proof.Tables.lean ====
/- The prefetched table of each device: one word, the device's own number. At it the block of `w_mat` that a step reads is
   the column block of the device the step sends to. -/
module

public import proofs.«01_k».proof.Proof.Peers
public import Idealize.ShloMosaic.Lib.Pipeline.Regions
public import Idealize.ShloMosaic.Lib.Pipeline.Kit
public import Idealize.ShloMosaic.Lib.Affine

@[expose] public section

noncomputable section

namespace Cert.KernelIdeal.Exchange

open Idealize.ShloMosaic Idealize.ShloMosaic.TcCoe
open Cert.KernelIdeal.Gen

variable {F : FTy → Type} [FloatOps F]

/-- The table of device `c`. -/
def tab (c : Dev nD) : pre0.Contents (Elt F) :=
  fun | 0 => fun _ => (Dev.word c : BitVec 32) | ⟨_ + 1, h⟩ => absurd h (Nat.not_lt.2 (Nat.le_add_left _ _))

/-- The column block of a step, as a function of the step and the table's word. -/
def colOf (n : Fin 16) (v : BitVec 32) : ℕ :=
  (Scalar.xori v (Scalar.select (Scalar.cmpi .sle (BitVec.ofNat 32 n.val) 7#32) (Scalar.addi (BitVec.ofNat 32 n.val) 8#32)
    (Scalar.select (Scalar.cmpi .sle (BitVec.ofNat 32 n.val) 11#32) (Scalar.subi (BitVec.ofNat 32 n.val) 4#32)
      (Scalar.select (Scalar.cmpi .sle (BitVec.ofNat 32 n.val) 14#32) (Scalar.subi (BitVec.ofNat 32 n.val) 11#32) 0#32)))).toNat

theorem colOf_word : ∀ (c : Dev nD) (n : Fin 16), colOf n (Dev.word c) = (tgt c n.val).val := by decide +kernel

theorem transform_1_eq (c : Dev nD) (i : grid0.Coords) :
    cc0_transform_1 (F := F) inb_S1_S1_0 numel1_S1 (tab c) i = ![0, (tgt c (i 0).val).val] := by
  rw [← colOf_word c (i 0)]; rfl

theorem ok_tab (c : Dev nD) : ok0 (F := F) (tab c) := fun i => by
  refine ⟨?_, .inr (Affine.block_words_dvd (of_decide_eq_true rfl) (by decide))⟩
  rw [transform_1_eq]
  have h : (tgt c (i 0).val).val < 16 := (tgt c (i 0).val).isLt
  intro a
  match a with
  | 0 => show (0 + 1) * 4096 ≤ 4096; omega
  | 1 => show ((tgt c (i 0).val).val + 1) * 512 ≤ 8192; omega

/-- The tables' contents every device runs at. -/
def adm (c : Dev nD) : (p : Fin 1) → (pcfgs (F := F) p).Adm := fun _ => ⟨tab c, ok_tab c⟩

end Cert.KernelIdeal.Exchange

end
-- ==== Proof.Data.lean ====
/- What the buffers hold: the blocks every device computes, as functions of the memory at launch, and what the pipeline's
   windows hold at each grid step. -/
module

public import proofs.«01_k».proof.Proof.Steps
public import proofs.«01_k».proof.Proof.Tables
public import Idealize.ShloMosaic.Lib.Pipeline.FrameBody

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The blocks -/

def xOf (c : Dev nD) : FVec F S256x4096 .fp8e4m3 := m ((c : Thread nD τ).loc main_arg0)
def wOf (c : Dev nD) : FVec F S4096x8192 .fp8e5m2 := m ((c : Thread nD τ).loc main_arg1)
def sxOf (c : Dev nD) : S1.Idx → Elt F .f32 := m ((c : Thread nD τ).loc main_arg2)
def swOf (c : Dev nD) : S1.Idx → Elt F .f32 := m ((c : Thread nD τ).loc main_arg3)

/-- Position `x` of column block `t` of `w_mat`. -/
def colIdx (t : Dev nD) (x : S4096x512.Idx) : S4096x8192.Idx :=
  fun | 0 => x 0
      | 1 => ⟨t.val * 512 + (x 1).val, by
          have h : (x 1).val < 512 := (x 1).isLt
          have ht : t.val < 16 := t.isLt
          show t.val * 512 + (x 1).val < 8192
          omega⟩

/-- Column block `t` of `w_mat`. -/
def wcol (w : FVec F S4096x8192 .fp8e5m2) (t : Dev nD) : FVec F S4096x512 .fp8e5m2 := fun x => w (colIdx t x)

/-- The block device `s` computes for device `t`. -/
def outs : Blocks F := fun s t => k0_pay1 (k0_pay4 (word (sxOf m s)) (word (swOf m s)) (wcol (wOf m s) t) (k0_pay3 (xOf m s)))

/-- The result block of device `c`. -/
def result (c : Dev nD) : FVec F S4096x512 .f32 := k0_pay2 (landed (outs m) c)

theorem pay5_eq (a b : Elt F .f32) (w : FVec F S4096x512 .fp8e5m2) (x : FVec F S256x4096 .bf16) :
    k0_pay5 a b w x = k0_pay1 (k0_pay4 a b w x) := rfl

/-! ## The pipeline's data -/

/-- What a device holds before step `n` and after step `n - 1`, beside the windows. -/
def held (c : Dev nD) (n : ℕ) : sProp 𝕄 :=
  if n = 0 then iprop(∃ K, entering (outs m) K c)
  else if n < 16 then iprop(∃ K, between (outs m) K c (k0_pay3 (xOf m c)) n)
  else finished c

/-- What a device owes before step `n`. -/
def owedAt (c : Dev nD) (n : ℕ) : CellTallies nD τ sig Unit := if n = 0 then O₀ c else owedRecv c n

/-- The pipeline's data at device `c`. -/
def dat (c : Dev nD) : Pipeline.Dat τ (Elt F) Unit ℕ UU ℕ (cfg0 (adm (F := F) c 0)) c where
  A w := m (((cfg0 (adm (F := F) c 0)).win w).arr.view.loc (c : Thread nD τ))
  after := fun
    | 0 => fun _ => xOf m c
    | 1 => fun t => wcol (wOf m c) (tgt c t.val)
    | 2 => fun _ => sxOf m c
    | 3 => fun _ => swOf m c
    | 4 => fun _ => result m c
    | ⟨_ + 5, h⟩ => absurd h (Nat.not_lt.2 (Nat.le_add_left _ _))
  Φ t := held m c t.val
  q _ := fullShare
  owed t := owedAt c t.val

theorem coords_val : ∀ t : Fin grid0.N, (grid0.coords t 0).val = t.val := by decide +kernel

/-- Positions are equal when their coordinates are. -/
theorem ext1 {a : ℕ} {x y : (⟨1, ![a]⟩ : Shape).Idx} (h : (x 0).val = (y 0).val) : x = y :=
  funext fun | 0 => Fin.ext h
theorem ext2 {a b : ℕ} {x y : (⟨2, ![a, b]⟩ : Shape).Idx} (h : (x 0).val = (y 0).val) (h' : (x 1).val = (y 1).val) : x = y :=
  funext fun | 0 => Fin.ext h | 1 => Fin.ext h'

theorem block0 (c : Dev nD) (t : Fin grid0.N) : (dat m c).blockOf 0 t = xOf m c := by
  refine funext fun (x : S256x4096.Idx) => ?_
  refine congrArg (m ((c : Thread nD τ).loc main_arg0)) (ext2 (a := 256) (b := 4096) ?_ ?_)
  · show 0 * 256 + 1 * (x 0).val = (x 0).val; omega
  · show 0 * 4096 + 1 * (x 1).val = (x 1).val; omega
theorem block2 (c : Dev nD) (t : Fin grid0.N) : (dat m c).blockOf 2 t = sxOf m c := by
  refine funext fun (x : S1.Idx) => ?_
  refine congrArg (m ((c : Thread nD τ).loc main_arg2)) (ext1 (a := 1) ?_)
  show 0 * 1 + 1 * (x 0).val = (x 0).val; omega
theorem block3 (c : Dev nD) (t : Fin grid0.N) : (dat m c).blockOf 3 t = swOf m c := by
  refine funext fun (x : S1.Idx) => ?_
  refine congrArg (m ((c : Thread nD τ).loc main_arg3)) (ext1 (a := 1) ?_)
  show 0 * 1 + 1 * (x 0).val = (x 0).val; omega
theorem block1 (c : Dev nD) (t : Fin grid0.N) : (dat m c).blockOf 1 t = wcol (wOf m c) (tgt c t.val) := by
  have h := transform_1_eq (F := F) c (grid0.coords t)
  rw [coords_val] at h
  refine funext fun (x : S4096x512.Idx) => ?_
  refine congrArg (m ((c : Thread nD τ).loc main_arg1)) (ext2 (a := 4096) (b := 8192) ?_ ?_)
  · show cc0_transform_1 (F := F) inb_S1_S1_0 numel1_S1 (tab c) (grid0.coords t) 0 * 4096 + 1 * (x 0).val = (x 0).val
    rw [h]
    show 0 * 4096 + 1 * (x 0).val = (x 0).val
    omega
  · show cc0_transform_1 (F := F) inb_S1_S1_0 numel1_S1 (tab c) (grid0.coords t) 1 * 512 + 1 * (x 1).val = (tgt c t.val).val * 512 + (x 1).val
    rw [h]
    show (tgt c t.val).val * 512 + 1 * (x 1).val = (tgt c t.val).val * 512 + (x 1).val
    omega

theorem before0 (c : Dev nD) (t : Fin grid0.N) (d) : (dat m c).before 0 t d = xOf m c :=
  ((dat m c).before_in_eq_fetched 0 rfl (fun _ => rfl) (fun _ _ _ => rfl) (fun t => (block0 m c t).symm) t d).trans (block0 m c t)
theorem before1 (c : Dev nD) (t : Fin grid0.N) (d) : (dat m c).before 1 t d = wcol (wOf m c) (tgt c t.val) :=
  ((dat m c).before_in_eq_fetched 1 rfl (fun _ => rfl) (fun _ _ _ => rfl) (fun t => (block1 m c t).symm) t d).trans (block1 m c t)
theorem before2 (c : Dev nD) (t : Fin grid0.N) (d) : (dat m c).before 2 t d = sxOf m c :=
  ((dat m c).before_in_eq_fetched 2 rfl (fun _ => rfl) (fun _ _ _ => rfl) (fun t => (block2 m c t).symm) t d).trans (block2 m c t)
theorem before3 (c : Dev nD) (t : Fin grid0.N) (d) : (dat m c).before 3 t d = swOf m c :=
  ((dat m c).before_in_eq_fetched 3 rfl (fun _ => rfl) (fun _ _ _ => rfl) (fun t => (block3 m c t).symm) t d).trans (block3 m c t)

end Cert.KernelIdeal.Exchange

end
-- ==== Proof.Body.lean ====
/- Every grid step of every device does what the pipeline's data say. -/
module

public import proofs.«01_k».proof.Proof.Data

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-- Device `c`'s pipeline. -/
abbrev cfgAt (F : FTy → Type) [FloatOps F] (c : Dev nD) : Pipeline.Cfg sig Λ₀ := cfg0 (adm (F := F) c 0)

/-- The staging buffer of window `w` at step `t`. -/
abbrev stg (F : FTy → Type) [FloatOps F] (c : Dev nD) (t : Fin grid0.N) (w : Fin 5) := ((cfgAt F c).win w).stage ((cfgAt F c).slots t w)

/-- The step's program, at its staging buffers. -/
abbrev stepAt (t : Fin grid0.N) : P F :=
  step (F := F) (stg F c t 0) (hstage0_0 (((cfgAt F c).slots t 0).cast nbuf0_0)) (stg F c t 1) (hstage0_1 (((cfgAt F c).slots t 1).cast nbuf0_1))
    (stg F c t 2) (hstage0_2 (((cfgAt F c).slots t 2).cast nbuf0_2)) (stg F c t 3) (hstage0_3 (((cfgAt F c).slots t 3).cast nbuf0_3))
    (stg F c t 4) (hstage0_4 (((cfgAt F c).slots t 4).cast nbuf0_4)) (grid0.coords t) (Memref.whole main_v5) (Memref.isWhole_whole _)

theorem row_eq (t : Fin grid0.N) :
    defs₀ (F := F) .tc (cfgAt F c).body ((cfgAt F c).bodyArgs t ((cfgAt F c).slots t)) = stepAt c t := by
  unfold defs₀; rw [Defs.onTc_tc]

theorem idle4_of_lt : ∀ t : Fin grid0.N, t.val < 15 → idle0 4 (grid0.coords t) = true := by decide +kernel
theorem idle4_last : ∀ t : Fin grid0.N, t.val = 15 → idle0 4 (grid0.coords t) = false := by decide +kernel

theorem flush4_of_lt (t : Fin grid0.N) (h : t.val < 15) : ((cfgAt F c).win 4).flush t = false := by
  unfold Pipeline.Window.flush
  have h1 : ¬ (t.val + 1 = grid0.N) := by have := N_0; omega
  have h2 : ¬ ∃ h : t.val + 1 < grid0.N, ((cfgAt F c).win 4).index ⟨t.val + 1, h⟩ ≠ ((cfgAt F c).win 4).index t := fun ⟨_, h⟩ => h rfl
  rw [show decide (t.val + 1 = grid0.N) = false from decide_eq_false h1]
  rw [decide_eq_false h2]
  simp

/-- What the step finds in the staging buffers of the operands is what it leaves there. -/
theorem operands_found (t : Fin grid0.N) :
    iprop((∃ d, owns (c : Thread nD τ) (stg F c t 0) fullShare ((dat m c).before 0 t d))
        ∗ (∃ d, owns (c : Thread nD τ) (stg F c t 1) fullShare ((dat m c).before 1 t d))
        ∗ (∃ d, owns (c : Thread nD τ) (stg F c t 2) fullShare ((dat m c).before 2 t d))
        ∗ ∃ d, owns (c : Thread nD τ) (stg F c t 3) fullShare ((dat m c).before 3 t d))
      ⊢ (staging (stg F c t 0) (stg F c t 1) (stg F c t 2) (stg F c t 3) c (xOf m c) (wcol (wOf m c) (tgt c t.val)) (sxOf m c) (swOf m c) : sProp 𝕄) := by
  unfold staging
  iintro ⟨⟨%d0, H0⟩, ⟨%d1, H1⟩, ⟨%d2, H2⟩, %d3, H3⟩
  rw [before0, before1, before2, before3]
  isplitl [H0]; · iexact H0
  isplitl [H1]; · iexact H1
  isplitl [H2]; · iexact H2
  iexact H3

/-- The step at `t`, before the last. -/
theorem step_sound (t : Fin grid0.N) (ht : t.val < 15) (Q : PUnit → sProp 𝕄) :
    iprop(held m c t.val ∗ (∃ W, owes (c : Thread nD τ) (owedAt c t.val) W)
        ∗ staging (stg F c t 0) (stg F c t 1) (stg F c t 2) (stg F c t 3) c (xOf m c) (wcol (wOf m c) (tgt c t.val)) (sxOf m c) (swOf m c))
      ⊢ iprop((held m c (t.val + 1) ∗ (∃ W, owes (c : Thread nD τ) (owedAt c (t.val + 1)) W)
          ∗ staging (stg F c t 0) (stg F c t 1) (stg F c t 2) (stg F c t 3) c (xOf m c) (wcol (wOf m c) (tgt c t.val)) (sxOf m c) (swOf m c) -∗ Q ⟨⟩)
        -∗ run c (stepAt c t) Q) := by
  have hi := coords_val t
  have hnext : held m c (t.val + 1) = iprop(∃ K, between (outs m) K c (k0_pay3 (xOf m c)) (t.val + 1)) := by
    unfold held; rw [if_neg (by omega), if_pos (by omega)]
  have howed : owedAt c (t.val + 1) = owedRecv c (t.val + 1) := by unfold owedAt; rw [if_neg (by omega)]
  rw [hnext, howed]
  by_cases h0 : t.val = 0
  · rw [h0] at hi ⊢
    have hh : held m c 0 = iprop(∃ K, entering (outs m) K c) := by unfold held; rw [if_pos rfl]
    have ho : owedAt c 0 = O₀ c := by unfold owedAt; rw [if_pos rfl]
    rw [hh, ho]
    iintro ⟨⟨%K, Hh⟩, ⟨%W, HO⟩, Hs⟩ Hk
    iapply (wp_step_first _ _ _ _ _ _ _ _ _ _ (grid0.coords t) _ _ (outs m) K c W (xOf m c) (wcol (wOf m c) (tgt c 0)) (sxOf m c) (swOf m c) Q hi rfl) $$ [Hh HO Hs]
    · isplitl [Hh]; · iexact Hh
      isplitl [HO]; · iexact HO
      iexact Hs
    iintro ⟨Hh, HO, Hs⟩
    iapply Hk
    isplitl [Hh]; · iexists K; iexact Hh
    isplitl [HO]; · iexact HO
    iexact Hs
  · have hh : held m c t.val = iprop(∃ K, between (outs m) K c (k0_pay3 (xOf m c)) t.val) := by
      unfold held; rw [if_neg h0, if_pos (by omega)]
    have ho : owedAt c t.val = owedRecv c t.val := by unfold owedAt; rw [if_neg h0]
    rw [hh, ho]
    iintro ⟨⟨%K, Hh⟩, ⟨%W, HO⟩, Hs⟩ Hk
    iapply (wp_step_mid _ _ _ _ _ _ _ _ _ _ (grid0.coords t) _ _ (outs m) K c W (xOf m c) (wcol (wOf m c) (tgt c t.val)) (sxOf m c) (swOf m c) Q t.val hi ht h0 rfl) $$ [Hh HO Hs]
    · isplitl [Hh]; · iexact Hh
      isplitl [HO]; · iexact HO
      iexact Hs
    iintro ⟨Hh, HO, Hs⟩
    iapply Hk
    isplitl [Hh]; · iexists K; iexact Hh
    isplitl [HO]; · iexists W; iexact HO
    iexact Hs

/-- The last step. -/
theorem last_sound (t : Fin grid0.N) (ht : t.val = 15) (Q : PUnit → sProp 𝕄) :
    iprop(held m c t.val ∗ (∃ W, owes (c : Thread nD τ) (owedAt c t.val) W)
        ∗ staging (stg F c t 0) (stg F c t 1) (stg F c t 2) (stg F c t 3) c (xOf m c) (wcol (wOf m c) (tgt c t.val)) (sxOf m c) (swOf m c)
        ∗ ∃ Y, owns (c : Thread nD τ) (stg F c t 4) fullShare Y)
      ⊢ iprop((held m c (t.val + 1) ∗ (∃ W, owes (c : Thread nD τ) (owedAt c (t.val + 1)) W)
          ∗ staging (stg F c t 0) (stg F c t 1) (stg F c t 2) (stg F c t 3) c (xOf m c) (wcol (wOf m c) (tgt c t.val)) (sxOf m c) (swOf m c)
          ∗ owns (c : Thread nD τ) (stg F c t 4) fullShare (result m c) -∗ Q ⟨⟩)
        -∗ run c (stepAt c t) Q) := by
  have hi := coords_val t
  rw [ht] at hi ⊢
  have hh : held m c 15 = iprop(∃ K, between (outs m) K c (k0_pay3 (xOf m c)) 15) := by
    unfold held; rw [if_neg (by decide), if_pos (by decide)]
  have hh' : held m c (15 + 1) = finished c := by unfold held; rw [if_neg (by decide), if_neg (by decide)]
  have ho : owedAt c 15 = owedRecv c 15 := by unfold owedAt; rw [if_neg (by decide)]
  have ho' : owedAt c (15 + 1) = 0 := by unfold owedAt; rw [if_neg (by decide), owedRecv_end c _ (by decide)]
  rw [hh, hh', ho, ho', tgt_last]
  iintro ⟨⟨%K, Hh⟩, ⟨%W, HO⟩, Hs, HY⟩ Hk
  iapply (wp_step_last _ _ _ _ _ _ _ _ _ _ (grid0.coords t) _ _ (outs m) K c W (xOf m c) (wcol (wOf m c) c) (sxOf m c) (swOf m c) Q hi (pay5_eq _ _ _ _)) $$ [Hh HO Hs HY]
  · isplitl [Hh]; · iexact Hh
    isplitl [HO]; · iexact HO
    isplitl [Hs]; · iexact Hs
    iexact HY
  iintro ⟨Hh, HO, Hs, HY⟩
  iapply Hk
  isplitl [Hh]; · iexact Hh
  isplitl [HO]; · unfold idle; iexact HO
  isplitl [Hs]; · iexact Hs
  unfold result
  iexact HY

/-- What the step leaves in the result's staging buffer: whatever was there, but for the last step. -/
def left4 (t : Fin grid0.N) : sProp 𝕄 :=
  match idle0 4 (grid0.coords t) with
  | true =>
    match ((cfgAt F c).win 4).flush t with
    | false => iprop(∃ d, owns (c : Thread nD τ) (stg F c t 4) fullShare ((dat m c).before 4 t d))
    | true => owns (c : Thread nD τ) (stg F c t 4) fullShare (result m c)
  | false => owns (c : Thread nD τ) (stg F c t 4) fullShare (result m c)

/-- What is handed to the step at `t`. -/
def given (t : Fin grid0.N) : sProp 𝕄 :=
  iprop(held m c t.val ∗ (dat m c).owesAt () t.castSucc
    ∗ (∃ d, owns (c : Thread nD τ) (stg F c t 0) fullShare ((dat m c).before 0 t d))
    ∗ (∃ d, owns (c : Thread nD τ) (stg F c t 1) fullShare ((dat m c).before 1 t d))
    ∗ (∃ d, owns (c : Thread nD τ) (stg F c t 2) fullShare ((dat m c).before 2 t d))
    ∗ (∃ d, owns (c : Thread nD τ) (stg F c t 3) fullShare ((dat m c).before 3 t d))
    ∗ (∃ d, owns (c : Thread nD τ) (stg F c t 4) fullShare ((dat m c).before 4 t d)))

/-- What the step at `t` hands back. -/
def handed (t : Fin grid0.N) : sProp 𝕄 :=
  iprop(held m c (t.val + 1) ∗ (dat m c).owesAt () t.succ
    ∗ owns (c : Thread nD τ) (stg F c t 0) fullShare (xOf m c)
    ∗ owns (c : Thread nD τ) (stg F c t 1) fullShare (wcol (wOf m c) (tgt c t.val))
    ∗ owns (c : Thread nD τ) (stg F c t 2) fullShare (sxOf m c)
    ∗ owns (c : Thread nD τ) (stg F c t 3) fullShare (swOf m c)
    ∗ left4 m c t)

theorem body_sound (t : Fin grid0.N) : given m c t ⊢ run c (stepAt c t) fun _ => handed m c t := by
  unfold given handed left4
  have hop := operands_found m c t
  have hN : grid0.N = 16 := N_0
  by_cases ht : t.val < 15
  · rw [idle4_of_lt t ht, flush4_of_lt c t ht]
    iintro ⟨Hh, HO, H0, H1, H2, H3, H4⟩
    ihave Hs := hop $$ [H0 H1 H2 H3]
    · isplitl [H0]; · iexact H0
      isplitl [H1]; · iexact H1
      isplitl [H2]; · iexact H2
      iexact H3
    icases HO with ⟨%W, %_, HO⟩
    iapply (step_sound m c t ht _) $$ [Hh HO Hs]
    · isplitl [Hh]; · iexact Hh
      isplitl [HO]; · iexists W; iexact HO
      iexact Hs
    iintro ⟨Hh, ⟨%W', HO⟩, Hs⟩
    unfold staging
    icases Hs with ⟨H0, H1, H2, H3⟩
    isplitl [Hh]; · iexact Hh
    isplitl [HO]
    · iexists W'
      isplitr; · ipureintro; exact fun _ _ => Or.inl trivial
      iexact HO
    isplitl [H0]; · iexact H0
    isplitl [H1]; · iexact H1
    isplitl [H2]; · iexact H2
    isplitl [H3]; · iexact H3
    iexact H4
  · have ht : t.val = 15 := by have := t.isLt; omega
    rw [idle4_last t ht]
    iintro ⟨Hh, HO, H0, H1, H2, H3, %d4, H4⟩
    ihave Hs := hop $$ [H0 H1 H2 H3]
    · isplitl [H0]; · iexact H0
      isplitl [H1]; · iexact H1
      isplitl [H2]; · iexact H2
      iexact H3
    icases HO with ⟨%W, %_, HO⟩
    iapply (last_sound m c t ht _) $$ [Hh HO Hs H4]
    · isplitl [Hh]; · iexact Hh
      isplitl [HO]; · iexists W; iexact HO
      isplitl [Hs]; · iexact Hs
      iexists _; iexact H4
    iintro ⟨Hh, ⟨%W', HO⟩, Hs, H4⟩
    unfold staging
    icases Hs with ⟨H0, H1, H2, H3⟩
    isplitl [Hh]; · iexact Hh
    isplitl [HO]
    · iexists W'
      isplitr; · ipureintro; exact fun _ _ => Or.inl trivial
      iexact HO
    isplitl [H0]; · iexact H0
    isplitl [H1]; · iexact H1
    isplitl [H2]; · iexact H2
    isplitl [H3]; · iexact H3
    iexact H4

/-- What the pipeline asks of the body, at every step. -/
theorem body_ok : Pipeline.BodyObligation (dat m c) (defs₀ (F := F)) 𝒱₀ () Set.univ := fun t => by
  rw [bigSep_W0, bigSep_W0, row_eq]
  exact triple_restated (body_sound m c t) rfl .rfl fun _ => .rfl

end Cert.KernelIdeal.Exchange

end
-- ==== Proof.Region.lean ====
/- The kernel region on each device: how the thread state before it becomes the first step's holdings, and how the last
   step's holdings become the thread state after it. -/
module

public import proofs.«01_k».proof.Proof.Body
public import proofs.«01_k».proof.Proof.Gen.KernelIdeal.Regions

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The kernel's own semaphores -/

/-- The fifteen send semaphores and the receive semaphore. -/
def osem (k : Fin 16) : SemLoc sig := .dma ⟨6 + k.val, by have := k.isLt; show 6 + k.val < 22; omega⟩

theorem osem_facts : Pipeline.OwnSemFacts spec0 osem := by decide
theorem osem_inj : Function.Injective osem := by decide
theorem osem_ne_bar : ∀ k, osem k ≠ .reg barS := by decide

/-- The number of the send semaphore of step `n`. -/
def sendK (n : ℕ) : Fin 16 := ⟨n % 15, by omega⟩
theorem sendK_image : (Finset.Ico 0 15).image sendK = Finset.univ.erase 15 := by decide
theorem sendK_inj : Set.InjOn sendK (Finset.Ico 0 15 : Finset ℕ) := by
  intro a ha b hb h
  have h' := congrArg Fin.val h
  simp only [Finset.coe_Ico, Set.mem_Ico] at ha hb
  change a % 15 = b % 15 at h'
  omega

/-- Something of each of the kernel's own semaphores: of each send semaphore, and of the receive semaphore. -/
theorem own_split (c : Dev nD) (Φ : GSem nD τ sig → sProp 𝕄) :
    (bigSep Finset.univ fun k => Φ ((c : Thread nD τ), osem k)) = iprop(Φ (recvCell c) ∗ bigSep (Finset.Ico 0 15) fun n => Φ (sendCell c n)) := by
  rw [bigSep_univ_at _ (15 : Fin 16), ← sendK_image, bigSep_image_of_injOn sendK_inj]
  rfl

theorem ownSems_eq (c : Dev nD) : (Pipeline.ownSems0 osem c : sProp 𝕄)
    = iprop(semVal (recvCell c) 0 ∗ bigSep (Finset.Ico 0 15) fun n => semVal (sendCell c n) 0) :=
  own_split c fun g => semVal g 0

/-! ## From the launch to the first step -/

variable (out : Blocks F) (K : GSem nD τ sig → ℕ) (c : Dev nD)

/-- The duty tokens of the copies and of the signals that device `c` performs. -/
def tokens : sProp 𝕄 :=
  iprop((bigSep (Finset.Ico 1 16) fun j => dutyTok ER (barCell (peer c j)) 0 c)
    ∗ (bigSep (Finset.Ico 0 15) fun n => dutyTok ER (sendCell c n) 0 c)
    ∗ bigSep (Finset.Ico 0 15) fun n => dutyTok ER (recvCell (tgt c n)) 0 c)

/-- What the launch gives device `c` of the protocol. -/
def launched : sProp 𝕄 :=
  iprop(invs out K ∗ (bigSep Finset.univ fun d : Dev nD => reached ER (barCell d) 0)
    ∗ atPos ER (barCell c) 0 ∅ 0 ∗ (openTok ER (recvCell c) ∗ bigSep (Finset.Ico 0 15) fun n => openTok ER (sendCell c n)) ∗ tokens c)

/-- The credits the device waits with. -/
def credits : sProp 𝕄 := iprop(cred (tallyAt (barCell c) () 15) ∗ cred (tallyAt (recvCell c) () (15 * N)))

/-- The same once the kernel's own semaphores are in use. -/
def opened : sProp 𝕄 :=
  iprop(invs out K ∗ (bigSep Finset.univ fun d : Dev nD => reached ER (barCell d) 0)
    ∗ atPos ER (barCell c) 0 ∅ 0 ∗ (atPos ER (recvCell c) 0 ∅ 0 ∗ reached ER (recvCell c) 0)
    ∗ (bigSep (Finset.Ico 0 15) fun n => iprop(atPos ER (sendCell c n) 0 ∅ 0 ∗ reached ER (sendCell c n) 0)) ∗ tokens c)

theorem open_all : iprop(launched out K c ∗ Pipeline.ownSems0 osem c) ⊢ (|={Set.univ}=> opened out K c : sProp 𝕄) := by
  rw [ownSems_eq]
  unfold launched opened
  iintro ⟨⟨#HI, #HR, Hb, ⟨Hor, Hos⟩, Ht⟩, Hvr, Hvs⟩
  imod (Rounds.cell_open ER (Rd out) (g := recvCell c) (Set.mem_univ (K (recvCell c)))) $$ [Hor Hvr] with Hr
  · isplitr; · iapply (invs_recv out K c); iexact HI
    isplitl [Hor]; · iexact Hor
    iexact Hvr
  imod (Rounds.cells_open ER (Rd out) (Finset.Ico 0 15) (sendCell c) (fun n => K (sendCell c n)) (fun _ _ => Set.mem_univ _)) $$ [Hos Hvs] with Hs
  · isplitl [Hos]
    · iapply (bigSep_with_persistent (R := invs out K) (Φ := fun n => (openTok ER (sendCell c n) : sProp 𝕄)) (S := Finset.Ico 0 15) (fun n hn => by
        iintro ⟨#HI, H⟩
        isplitr; · iapply (invs_send out K c n (Finset.mem_Ico.mp hn).2); iexact HI
        iexact H))
      isplitr; · iexact HI
      iexact Hos
    iexact Hvs
  imodintro
  isplitr; · iexact HI
  isplitr; · iexact HR
  isplitl [Hb]; · iexact Hb
  isplitl [Hr]; · iexact Hr
  isplitl [Hs]; · iexact Hs
  iexact Ht

/-- The receive buffer, whole, as the own slot and the slots that the signals hand over. -/
theorem rSplit : iprop(∃ f, rLoc c ↦{fullShare} f)
    ⊢ (iprop((∃ f, rPts c c.val f) ∗ bigSep (Finset.Ico 1 16) fun j => iprop(∃ f, rPts c (peer c j).val f)) : sProp 𝕄) := by
  iintro ⟨%f, H⟩
  ihave H := (Entails.of_eq (rWhole c f)) $$ H
  rw [← peer_image c, bigSep_image_of_injOn (peer_injOn c)]
  icases H with ⟨H0, H⟩
  isplitl [H0]; · iexists f; iexact H0
  iapply (show (bigSep (Finset.Ico 1 16) fun j => rPts c (peer c j).val f : sProp 𝕄) ⊢ bigSep (Finset.Ico 1 16) fun j => iprop(∃ f, rPts c (peer c j).val f) from
    bigSep_mono fun j _ => (show rPts c (peer c j).val f ⊢ iprop(∃ f, rPts c (peer c j).val f) from by iintro H; iexists f; iexact H)) $$ H

/-- What every step needs of the device itself, put together. -/
theorem ready_all : iprop((bigSep (Finset.Ico 0 15) fun n => iprop(∃ f, yPts c n f))
      ∗ (bigSep (Finset.Ico 0 15) fun n => iprop(atPos ER (sendCell c n) 0 ∅ 0 ∗ reached ER (sendCell c n) 0))
      ∗ (bigSep (Finset.Ico 0 15) fun n => dutyTok ER (sendCell c n) 0 c)
      ∗ bigSep (Finset.Ico 0 15) fun n => dutyTok ER (recvCell (tgt c n)) 0 c)
    ⊢ (bigSep (Finset.Ico 0 15) (ready c) : sProp 𝕄) := by
  rw [← bigSep_sep', ← bigSep_sep', ← bigSep_sep']
  refine bigSep_mono fun n _ => (show _ ⊢ ready c n from ?_)
  unfold ready
  iintro ⟨Hy, ⟨Hp, Hr⟩, Ht2, Ht3⟩
  isplitl [Hy]; · iexact Hy
  isplitl [Ht2]; · iexact Ht2
  isplitl [Hr]; · iexact Hr
  isplitl [Ht3]; · iexact Ht3
  iexact Hp

/-- What the first step holds, from the launch's share and the scratch buffers. -/
theorem entering_intro : iprop(opened out K c ∗ credits c ∗ levAts L lv
      ∗ (∃ f, owns (c : Thread nD τ) qM fullShare f) ∗ (∃ f, yLoc c ↦{fullShare} f) ∗ ∃ f, rLoc c ↦{fullShare} f)
    ⊢ (entering out K c : sProp 𝕄) := by
  unfold opened credits entering tokens
  iintro ⟨⟨#HI, #HR, Hb, ⟨Hr, #Hrr⟩, Hs, Ht1, Ht2, Ht3⟩, ⟨Hc1, Hc2⟩, Hlev, Hq, Hy, HrB⟩
  ihave Hy := (ySplit c) $$ Hy
  ihave HrB := (rSplit c) $$ HrB
  icases HrB with ⟨Hr0, HrB⟩
  isplitr; · iexact HI
  isplitl [Hlev]; · iexact Hlev
  isplitr; · iexact Hrr
  isplitl [Ht1 HrB]
  · ihave H := (Entails.of_eq (bigSep_sep' (s := Finset.Ico 1 16) (Φ := fun j => (dutyTok ER (barCell (peer c j)) 0 c : sProp 𝕄))
      (Ψ := fun j => iprop(∃ f, rPts c (peer c j).val f))).symm) $$ [Ht1 HrB]
    · isplitl [Ht1]; · iexact Ht1
      iexact HrB
    iapply (bigSep_with_persistent (R := bigSep Finset.univ fun d : Dev nD => (reached ER (barCell d) 0 : sProp 𝕄))
      (Φ := fun j => (iprop(dutyTok ER (barCell (peer c j)) 0 c ∗ ∃ f, rPts c (peer c j).val f) : sProp 𝕄)) (S := Finset.Ico 1 16) (Ψ := toSignal c) (fun j _ => by
        unfold toSignal
        iintro ⟨#HR, H1, H2⟩
        isplitl [H1]; · iexact H1
        isplitr; · iapply (bigSep_take (Φ := fun d : Dev nD => (reached ER (barCell d) 0 : sProp 𝕄)) (Finset.mem_univ (peer c j))); iexact HR
        iexact H2))
    isplitr; · iexact HR
    iexact H
  isplitl [Hr0]; · iexact Hr0
  isplitl [Hy Hs Ht2 Ht3]
  · iapply (ready_all c)
    isplitl [Hy]; · iexact Hy
    isplitl [Hs]; · iexact Hs
    isplitl [Ht2]; · iexact Ht2
    iexact Ht3
  isplitl [Hb]; · iexact Hb
  isplitl [Hr]; · iexact Hr
  isplitl [Hc1]; · iexact Hc1
  isplitl [Hc2]; · iexact Hc2
  iexact Hq

/-! ## The region -/

variable (m : (ℓ : Loc nD τ sig) → Buf (Elt F) ℓ)

/-- The pipeline's data of each device. -/
def pdats : (p : Fin 1) → (c : Dev nD) → Pipeline.Dat τ (Elt F) Unit ℕ UU ℕ (Pipeline.pinD (pcfgs (F := F)) adm c p) c
  | 0 => fun c => dat m c

theorem cells_inj : Function.Injective (Pipeline.PerCore.cellOf (nD := nD) (τ := τ) (Pipeline.pinD (pcfgs (F := F)) adm)) :=
  Pipeline.PerCore.cellOf_injective _ (fun _ p => match p with | 0 => (by decide : Pipeline.SpecSemsDistinct spec0))
    fun _ p p' h => absurd (Subsingleton.elim p p') h

/-- A device's number divided by one, modulo sixteen, is itself. -/
theorem word_mod : ∀ c : Dev nD, IntOp.remui .host (IntOp.divui .host (Dev.word c) 1#32) 16#32 = (Dev.word c : BitVec 32) := by decide +kernel

/-- The table the host computes is the one the pipeline runs at. -/
theorem table_eq (c : Dev nD) : (fun k => V1 m c (pre0.ref k) : pre0.Contents (Elt F)) = tab c := by
  funext k
  match k with
  | 0 =>
    show StableHlo.after (hostOps0 c) (V0 m c) (Proc.devRef .tc main_v5) = _
    unfold hostOps0
    after_results
    funext i
    exact word_mod c

theorem lv_staging : ∀ (w : Fin 5) (s : Fin (spec0 w).nbuf), (spec0 w).sem s ≠ recvS := by decide

theorem owed_cut (c : Dev nD) (n : ℕ) (g : GSem nD τ sig) (u : Unit) (h : 0 < owedAt c n g u) : u ∈ L g ∧ 0 < lv g u := by
  unfold owedAt at h
  split at h
  · exact owed_above h
  · exact owedRecv_above h

theorem owesAt_intro (n : Fin (grid0.N + 1)) (W : Waits sig Unit) :
    (owes (c : Thread nD τ) (owedAt c n.val) W : sProp 𝕄) ⊢ (dat m c).owesAt () n := by
  iintro HO; iexists W
  isplitr; · ipureintro; exact fun _ _ => Or.inl trivial
  iexact HO

/-- The thread state at the region's entry. -/
def atEntry (c : Dev nD) : sProp 𝕄 :=
  iprop(StableHlo.held (c : Thread nD τ) (Pipeline.ucRefs τ sig) (V1 m c)
    ∗ (∃ K, launched (outs m) K c) ∗ credits c ∗ ∃ W, owes (c : Thread nD τ) (O₀ c) W)

/-- The thread state at the region's exit. -/
def atExit (c : Dev nD) : sProp 𝕄 :=
  iprop((dat m c).arrays ((dat m c).arrAt · grid0.N) ∗ semVal (barCell c) 0 ∗ ∃ W, owes (c : Thread nD τ) (0 : CellTallies nD τ sig Unit) W)

theorem share_full (w : Fin 5) : (dat m c).share w = fullShare := (dat m c).share_full (fun _ => rfl) w

theorem arrays_in : (StableHlo.held (c : Thread nD τ) (Pipeline.ucRefs τ sig) (V1 m c) : sProp 𝕄)
    ⊢ iprop((dat m c).arrays ((dat m c).arrAt · 0) ∗ Pipeline.prefHeld pre0 c (fun _ => fullShare) (tab c)) := by
  rw [← Pipeline.unscopedBufs_held (Ix := Unit) (Name := ℕ) (U := UU) (Lvl := ℕ) c (V1 m c)]
  refine (Pipeline.PerCore.arrays_of_unscopedBufs (pcfgs (F := F)) adm (pdats m) (p := 0) winFacts0 arr_whole0 c (share_full c m) (fun b => V1 m c b) (fun w => ?_)).trans ?_
  · match w with
    | 0 => exact (V1_of m c main_arg0 (by decide)).symm
    | 1 => exact (V1_of m c main_arg1 (by decide)).symm
    | 2 => exact (V1_of m c main_arg2 (by decide)).symm
    | 3 => exact (V1_of m c main_arg3 (by decide)).symm
    | 4 => exact (V1_of m c main_v6 (by decide)).symm
  · have hs := Pipeline.unscopedRest_split (Ix := Unit) (Name := ℕ) (U := UU) (Lvl := ℕ) preFacts0 c (fun b => V1 m c b)
    rw [table_eq] at hs
    refine (sep_mono .rfl (Entails.of_eq hs)).trans ?_
    iintro ⟨Ha, Hp, -⟩
    isplitl [Ha]; · iexact Ha
    iexact Hp

/-! ### The region's four entailments -/

/-- What enters the first step beside the scratch buffers. -/
def intoFirst (c : Dev nD) : sProp 𝕄 := iprop((∃ K, opened (outs m) K c) ∗ credits c ∗ levAts L lv)

theorem region_entry : iprop(atEntry m c ∗ Pipeline.ownSems0 osem c ∗ levAts L lv)
    ⊢ (|={Set.univ}=> iprop((dat m c).arrays ((dat m c).arrAt · 0) ∗ Pipeline.prefHeld pre0 c (fun _ => fullShare) (tab c)
        ∗ (dat m c).owesAt () 0 ∗ intoFirst m c ∗ emp) : sProp 𝕄) := by
  unfold atEntry intoFirst
  iintro ⟨⟨Hh, ⟨%K, Hl⟩, Hc, %W, HO⟩, Hos, Hlev⟩
  imod (open_all (outs m) K c) $$ [Hl Hos] with Hop
  · isplitl [Hl]; · iexact Hl
    iexact Hos
  imodintro
  ihave Ha := (arrays_in c m) $$ Hh
  icases Ha with ⟨Ha, Hp⟩
  isplitl [Ha]; · iexact Ha
  isplitl [Hp]; · iexact Hp
  isplitl [HO]; · iapply (owesAt_intro c m 0 W); iexact HO
  isplitr []
  · isplitl [Hop]; · iexists K; iexact Hop
    isplitl [Hc]; · iexact Hc
    iexact Hlev
  iempintro

theorem region_in : iprop(intoFirst m c ∗ Pipeline.prefHeld pre0 c (fun _ => fullShare) (tab c) ∗ Pipeline.scopedRest spec0 c)
    ⊢ (held m c 0 : sProp 𝕄) := by
  unfold intoFirst held
  rw [if_pos rfl, scopedRest0_eq]
  iintro ⟨⟨⟨%K, Hop⟩, Hc, Hlev⟩, -, ⟨%fq, Hq⟩, Hy, Hr⟩
  iexists K
  iapply (entering_intro (outs m) K c)
  isplitl [Hop]; · iexact Hop
  isplitl [Hc]; · iexact Hc
  isplitl [Hlev]; · iexact Hlev
  isplitl [Hq]
  · iexists fq
    rw [owns_whole]
    iexact Hq
  isplitl [Hy]; · iexact Hy
  iexact Hr

theorem region_out : (held m c 16 : sProp 𝕄)
    ⊢ iprop(semVal (barCell c) 0 ∗ Pipeline.ownSems0 osem c ∗ Pipeline.scopedRest spec0 c) := by
  unfold held finished
  rw [if_neg (by decide), if_neg (by decide), scopedRest0_eq, ownSems_eq]
  iintro ⟨Hb, Hs, Hr, ⟨%fq, Hq⟩, HyB, HrB⟩
  isplitl [Hb]; · iexact Hb
  isplitl [Hs Hr]
  · isplitl [Hr]; · iexact Hr
    iexact Hs
  isplitl [Hq]
  · iexists fq
    iapply (Entails.of_eq (owns_whole (c : Thread nD τ) cc0_scratch0 fullShare fq)) $$ Hq
  isplitl [HyB]; · iexact HyB
  iexact HrB

/-- After the last step nothing is owed. -/
theorem owed_end : owedAt c (Fin.last grid0.N).val = 0 := by
  rw [Fin.val_last, N_0]
  exact owedRecv_end c 16 (by decide)

theorem region_exit : iprop((dat m c).arrays ((dat m c).arrAt · grid0.N) ∗ (dat m c).owesAt () (Fin.last grid0.N) ∗ semVal (barCell c) 0 ∗ emp)
    ⊢ (|={Set.univ}=> atExit m c : sProp 𝕄) := by
  unfold atExit
  iintro ⟨Ha, ⟨%W, -, HO⟩, Hb, -⟩
  imodintro
  isplitl [Ha]; · iexact Ha
  isplitl [Hb]; · iexact Hb
  iexists W
  rw [show (dat m c).owed (Fin.last grid0.N) = (0 : CellTallies nD τ sig Unit) from owed_end c]
  iexact HO

set_option backward.isDefEq.respectTransparency.types false in
/-- The kernel region. -/
def reg : Pipeline.PerCore.RegionSeg (pcfgs (F := F)) adm (pdats m) () (defs₀ (F := F)) 𝒱₀ L lv 0 where
  win := winFacts0.to₀
  block_pos := block_pos0
  stage_whole := stage_whole0
  K := Fin 16
  osem := osem
  ho := osem_facts
  hbody c := (body_ok m c).loose
  hwaits c := Pipeline.PerCore.cellsWaits_intro _ (pdats m) () 0 c fun w s t => MayOwe.of_cut (L := L) (lev := lv) 0
    (fun q hq => by rw [Finset.mem_singleton.mp hq, L_tc]; exact Finset.mem_singleton_self _)
    (fun g u hg => (owed_cut c t.val g u hg).1)
    (fun q hq => by
      rw [Finset.mem_singleton.mp hq]
      unfold lv
      rw [if_neg (fun h => by cases h), if_neg (fun h => lv_staging w s (SemLoc.dma.inj h))])
    (fun g u hg => (owed_cut c t.val g u hg).2)
  pre c := atEntry m c
  post c := atExit m c
  X c := intoFirst m c
  Y c := semVal (barCell c) 0
  Z _ := iprop(emp)
  hentry c := region_entry c m
  hin c := region_in c m
  hout c := region_out c m
  hexit c := region_exit c m

end Cert.KernelIdeal.Exchange

end
-- ==== Proof.Launch.lean ====
/- The launch: every semaphore of the protocol gets its invariant, each device gets the tokens of the signals and copies it
   performs and the credits it waits with. -/
module

public import proofs.«01_k».proof.Proof.Region

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cells and tokens -/

def barEmb : Dev nD ↪ GSem nD τ sig := ⟨fun c => barCell c, fun _ _ h => congrArg (fun g : GSem nD τ sig => g.1.1) h⟩
def ownEmb : Dev nD × Fin 16 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier semaphores, in use from the launch; the others, in use from the region's entry. -/
def barCells : Finset (GSem nD τ sig) := Finset.univ.map barEmb
def ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ barCells ∪ ownCells :=
  Finset.mem_union_left _ (Finset.mem_map_of_mem barEmb (Finset.mem_univ c))
theorem own_mem (c : Dev nD) (k : Fin 16) : ((c : Thread nD τ), osem k) ∈ barCells ∪ ownCells :=
  Finset.mem_union_right _ (Finset.mem_map_of_mem ownEmb (Finset.mem_univ (c, k)))

abbrev Tok : Type := GSem nD τ sig × ℕ × Dev nD

def barTok (c : Dev nD) (j : ℕ) : Tok := (barCell (peer c j), 0, c)
def sendTok (c : Dev nD) (n : ℕ) : Tok := (sendCell c n, 0, c)
def recvTok (c : Dev nD) (n : ℕ) : Tok := (recvCell (tgt c n), 0, c)

/-- The tokens of device `c`. -/
def devToks (c : Dev nD) : Finset Tok :=
  (Finset.Ico 1 16).image (barTok c) ∪ ((Finset.Ico 0 15).image (sendTok c) ∪ (Finset.Ico 0 15).image (recvTok c))
def allToks : Finset Tok := Finset.univ.biUnion devToks

theorem devToks_of {c : Dev nD} {t : Tok} (h : t ∈ devToks c) : t.2.2 = c := by
  unfold devToks at h
  rcases Finset.mem_union.mp h with h | h
  · obtain ⟨_, _, rfl⟩ := Finset.mem_image.mp h; rfl
  · rcases Finset.mem_union.mp h with h | h
    · obtain ⟨_, _, rfl⟩ := Finset.mem_image.mp h; rfl
    · obtain ⟨_, _, rfl⟩ := Finset.mem_image.mp h; rfl

theorem barTok_inj (c : Dev nD) : Set.InjOn (barTok c) (Finset.Ico 1 16 : Finset ℕ) := fun _ ha _ hb h =>
  peer_injOn c ha hb (congrArg (fun t : Tok => t.1.1.1) h)
theorem recvTok_inj (c : Dev nD) : Set.InjOn (recvTok c) (Finset.Ico 0 15 : Finset ℕ) := fun _ ha _ hb h =>
  tgt_injOn c ha hb (congrArg (fun t : Tok => t.1.1.1) h)
theorem sendTok_inj (c : Dev nD) : Set.InjOn (sendTok c) (Finset.Ico 0 15 : Finset ℕ) := fun a ha b hb h => by
  have h' : (sendS a).val = (sendS b).val := congrArg Fin.val (SemLoc.dma.inj (congrArg (fun t : Tok => t.1.2) h))
  rw [Finset.coe_Ico, Set.mem_Ico] at ha hb
  rw [sendS_val a ha.2, sendS_val b hb.2] at h'
  omega

/-- The launch's tokens, device by device. -/
theorem toks_eq : (bigSep allToks fun t => (dutyTok ER t.1 t.2.1 t.2.2 : sProp 𝕄)) = bigSep Finset.univ fun c => tokens c := by
  unfold allToks
  rw [BI.bigSep_biUnion_eq _ _ _ fun c _ c' _ hne => Finset.disjoint_left.mpr fun t h h' => hne ((devToks_of h).symm.trans (devToks_of h'))]
  refine bigSep_congr fun c _ => ?_
  unfold devToks tokens
  rw [BI.bigSep_union (Finset.disjoint_left.mpr fun t h h' => by
      obtain ⟨j, _, rfl⟩ := Finset.mem_image.mp h
      rcases Finset.mem_union.mp h' with h' | h'
      · obtain ⟨n, _, e⟩ := Finset.mem_image.mp h'; cases congrArg (fun t : Tok => t.1.2) e
      · obtain ⟨n, _, e⟩ := Finset.mem_image.mp h'; cases congrArg (fun t : Tok => t.1.2) e),
    BI.bigSep_union (Finset.disjoint_left.mpr fun t h h' => by
      obtain ⟨j, hj, rfl⟩ := Finset.mem_image.mp h
      obtain ⟨n, _, e⟩ := Finset.mem_image.mp h'
      have e' : recvS.val = (sendS j).val := congrArg Fin.val (SemLoc.dma.inj (congrArg (fun t : Tok => t.1.2) e))
      rw [sendS_val j (Finset.mem_Ico.mp hj).2] at e'
      have : recvS.val = 21 := rfl
      have := (Finset.mem_Ico.mp hj).2
      omega),
    bigSep_image_of_injOn (barTok_inj c), bigSep_image_of_injOn (sendTok_inj c), bigSep_image_of_injOn (recvTok_inj c)]
  rfl

/-! ## Credits -/

theorem tally_sum (g : GSem nD τ sig) (s : Finset ℕ) (f : ℕ → GSem nD τ sig) (k : ℕ) :
    (∑ n ∈ s, (tallyAt (f n) () k : CellTallies nD τ sig Unit)) g () = ∑ n ∈ s, if g = f n then k else 0 := by
  rw [Finset.sum_apply, Finsupp.finset_sum_apply]
  refine Finset.sum_congr rfl fun n _ => ?_
  rw [tallyAt_apply]
  by_cases h : g = f n
  · rw [if_pos ⟨h, rfl⟩, if_pos h]
  · rw [if_neg fun h' => h h'.1, if_neg h]

theorem count_peer : ∀ c : Dev nD, (∑ d : Dev nD, ∑ n ∈ Finset.Ico 1 16, if c = peer d n then 1 else 0) = 15 := by decide +kernel
theorem count_tgt : ∀ c : Dev nD, (∑ d : Dev nD, ∑ n ∈ Finset.Ico 0 15, if c = tgt d n then 1 else 0) = 15 := by decide +kernel

theorem owed_bar (d c : Dev nD) : O₀ d (barCell c) () = ∑ n ∈ Finset.Ico 1 16, if c = peer d n then 1 else 0 := by
  unfold O₀ owedRecv owedBar
  rw [Pi.add_apply, Finsupp.add_apply, tally_sum, tally_sum, Finset.sum_eq_zero fun n _ => if_neg fun h => (by cases congrArg Prod.snd h), Nat.zero_add]
  refine Finset.sum_congr rfl fun n _ => ?_
  exact if_congr ⟨fun h => congrArg (fun g : GSem nD τ sig => g.1.1) h, fun h => congrArg barCell h⟩ rfl rfl
theorem owed_recv (d c : Dev nD) : O₀ d (recvCell c) () = (∑ n ∈ Finset.Ico 0 15, if c = tgt d n then 1 else 0) * N := by
  unfold O₀ owedRecv owedBar
  rw [Pi.add_apply, Finsupp.add_apply, tally_sum, tally_sum, Finset.sum_eq_zero (s := Finset.Ico 1 16) fun n _ => if_neg fun h => (by cases congrArg Prod.snd h), Nat.add_zero,
    Finset.sum_mul]
  refine Finset.sum_congr rfl fun n _ => ?_
  rw [ite_mul, Nat.one_mul, Nat.zero_mul]
  exact if_congr ⟨fun h => congrArg (fun g : GSem nD τ sig => g.1.1) h, fun h => congrArg recvCell h⟩ rfl rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_peer]
theorem launch_recv (c : Dev nD) :
    tallyOn (recvCell c) (launchCredit (Pipeline.owing O₀) 0 (recvCell c)) = (tallyAt (recvCell c) () (15 * N) : CellTallies nD τ sig Unit) := by
  unfold tallyAt; refine congrArg _ (Finsupp.ext fun u => ?_); cases u
  rw [Pipeline.launchCredit_owing, Finsupp.single_eq_same, Finset.sum_congr rfl fun d _ => owed_recv d c, ← Finset.sum_mul, count_tgt]

theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv]
  exact BI.bigSep_elim (Finset.mem_erase.mpr ⟨fun h => (by cases h), Finset.mem_univ _⟩)

/-! ## The launch's update -/

/-- Everything the launch shares: the invariants, and that every barrier is in its first round. -/
def records (out : Blocks F) (K : GSem nD τ sig → ℕ) : sProp 𝕄 :=
  iprop((bigSep (barCells ∪ ownCells) fun g => cellInv ER (Rd out) (K g) g) ∗ bigSep barCells fun g => reached ER g 0)

instance records_persistent (out : Blocks F) (K : GSem nD τ sig → ℕ) : BI.Persistent (records out K) := by unfold records; infer_instance

/-- What stays with device `c`. -/
def kept (c : Dev nD) : sProp 𝕄 :=
  iprop(atPos ER (barCell c) 0 ∅ 0 ∗ (openTok ER (recvCell c) ∗ bigSep (Finset.Ico 0 15) fun n => openTok ER (sendCell c n)) ∗ tokens c)

theorem inv_at (out : Blocks F) (K : GSem nD τ sig → ℕ) {g : GSem nD τ sig} (hg : g ∈ barCells ∪ ownCells) :
    (records out K : sProp 𝕄) ⊢ cellInv ER (Rd out) (K g) g := by
  unfold records
  iintro ⟨H, -⟩
  iapply (bigSep_take (Φ := fun g => (cellInv ER (Rd out) (K g) g : sProp 𝕄)) hg) $$ H

theorem sendCell_osem (c : Dev nD) (n : ℕ) : sendCell c n = ((c : Thread nD τ), osem (sendK n)) := rfl

theorem invs_intro (out : Blocks F) (K : GSem nD τ sig → ℕ) : (records out K : sProp 𝕄) ⊢ invs out K := by
  unfold invs
  iintro #H
  isplitr
  · iapply (BI.bigSep_intro_persistent (S := Finset.univ) fun (d : Dev nD) _ => inv_at out K (bar_mem d)); iexact H
  isplitr
  · iapply (BI.bigSep_intro_persistent (S := Finset.univ) fun (d : Dev nD) _ => inv_at out K (own_mem d 15)); iexact H
  iapply (BI.bigSep_intro_persistent (S := Finset.univ) fun (d : Dev nD) _ =>
    BI.bigSep_intro_persistent (S := Finset.Ico 0 15) fun n _ => inv_at out K (own_mem d (sendK n))); iexact H

theorem launched_intro (out : Blocks F) (K : GSem nD τ sig → ℕ) (c : Dev nD) : iprop(records out K ∗ kept c) ⊢ (launched out K c : sProp 𝕄) := by
  unfold launched kept
  iintro ⟨#H, Hk⟩
  isplitr; · iapply (invs_intro out K); iexact H
  isplitr
  · unfold records
    icases H with ⟨-, #H⟩
    iapply (Entails.of_eq (BI.bigSep_map (s := Finset.univ) barEmb (Φ := fun g : GSem nD τ sig => (reached ER g 0 : sProp 𝕄)))); iexact H
  iexact Hk

/-! ## The program's first thread state -/

variable (m : (ℓ : Loc nD τ sig) → Buf (Elt F) ℓ) (ρ : Dev nD → PrngReg)

/-- The ghost state the launch starts from, all of it with device 0. -/
def G (c : Dev nD) : sProp 𝕄 := if c = 0 then BI.own (ER (launchOf barCells ownCells allToks)) else iprop(emp)

theorem bigSep_G : bigSep Finset.univ (G (F := F)) = BI.own (ER (launchOf barCells ownCells allToks)) := by
  rw [bigSep_univ_at _ (0 : Dev nD), show G (F := F) 0 = _ from if_pos rfl,
    bigSep_congr (s := Finset.univ.erase (0 : Dev nD)) (Φ := G (F := F)) (Ψ := fun _ => iprop(emp)) fun c hc => if_neg (Finset.mem_erase.mp hc).1]
  exact (congrArg _ (BI.bigSep_emp_const _)).trans (BI.equiv_iff.mp sep_emp)

def u₀ : UU :=
  (initOf (Pipeline.PerCore.cells (Pipeline.pinD (pcfgs (F := F)) adm) cells_inj) (Pipeline.PerCore.launchToks (Pipeline.pinD (pcfgs (F := F)) adm) cells_inj),
    launchOf barCells ownCells allToks)

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides along with the host's operations. -/
def beside (c : Dev nD) : sProp 𝕄 :=
  iprop((∃ K, launched (outs m) K c) ∗ credits c ∗ ∃ W, owes (c : Thread nD τ) (O₀ c) W)

def T₀ (c : Dev nD) : sProp 𝕄 := iprop(StableHlo.held (c : Thread nD τ) (Pipeline.ucRefs τ sig) (V0 m c) ∗ beside m c)

/-- What of a device's launch holdings is not the protocol's ghost state. -/
def plain (c : Dev nD) : sProp 𝕄 :=
  iprop(StableHlo.held (c : Thread nD τ) (Pipeline.ucRefs τ sig) (V0 m c) ∗ credits c ∗ owes (c : Thread nD τ) (O₀ c) ∅)

theorem T₀_intro (K : GSem nD τ sig → ℕ) (c : Dev nD) : iprop(records (outs m) K ∗ (kept c ∗ plain m c)) ⊢ (T₀ m c : sProp 𝕄) := by
  unfold plain T₀ beside
  iintro ⟨#HR, Hk, Hh, Hc, HO⟩
  isplitl [Hh]; · iexact Hh
  isplitl [Hk]
  · iexists K
    iapply (launched_intro (outs m) K c)
    isplitr; · iexact HR
    iexact Hk
  isplitl [Hc]; · iexact Hc
  iexists ∅; iexact HO

theorem plain_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show unscopedBufs c (fun b => m ((c : Thread nD τ).loc b)) = StableHlo.held (c : Thread nD τ) (Pipeline.ucRefs τ sig) (V0 m c)
      from Pipeline.unscopedBufs_held c (V0 m c), unscoped_sems]
  unfold plain
  iintro ⟨Hh, Hv, HO, Hc, -, HG⟩
  isplitr [Hv HG]
  · isplitl [Hh]; · iexact Hh
    isplitl [Hc]; · iapply (creds c) $$ Hc
    iexact HO
  isplitl [Hv] <;> iassumption

theorem bars_eq (Φ : GSem nD τ sig → sProp 𝕄) : bigSep barCells Φ = bigSep Finset.univ fun c : Dev nD => Φ (barCell c) :=
  BI.bigSep_map (s := Finset.univ) barEmb (Φ := Φ)

theorem owns_eq (Φ : GSem nD τ sig → sProp 𝕄) :
    bigSep ownCells Φ = bigSep Finset.univ fun c : Dev nD => iprop(Φ (recvCell c) ∗ bigSep (Finset.Ico 0 15) fun n => Φ (sendCell c n)) := by
  unfold ownCells
  rw [BI.bigSep_map, bigSep_univ_prod]
  exact bigSep_congr fun c _ => own_split c Φ

theorem both_split (Φ Ψ : Dev nD → sProp 𝕄) :
    (bigSep Finset.univ fun c => iprop(Φ c ∗ Ψ c)) ⊢ iprop(bigSep Finset.univ Φ ∗ bigSep Finset.univ Ψ) := Entails.of_eq (bigSep_sep' (s := Finset.univ) (Φ := Φ) (Ψ := Ψ))
theorem both_join (Φ Ψ : Dev nD → sProp 𝕄) :
    iprop(bigSep Finset.univ Φ ∗ bigSep Finset.univ Ψ) ⊢ (bigSep Finset.univ fun c => iprop(Φ c ∗ Ψ c)) := Entails.of_eq (bigSep_sep' (s := Finset.univ) (Φ := Φ) (Ψ := Ψ)).symm

/-- The launch's update: the counters and the ghost state become the invariants, the owners' positions and the tokens. -/
theorem fund (out : Blocks F) (S Sd : Finset (GSem nD τ sig)) (hd : Disjoint S Sd) (T : Finset Tok) :
    iprop((bigSep S fun g => semVal g 0) ∗ BI.own (ER (launchOf S Sd T)))
      ⊢ (|={Set.univ}=> iprop(∃ K : GSem nD τ sig → ℕ, (bigSep (S ∪ Sd) fun g => cellInv ER (Rd out) (K g) g)
          ∗ (bigSep S fun g => reached ER g 0) ∗ (bigSep S fun g => atPos ER g 0 ∅ 0)
          ∗ (bigSep Sd fun g => openTok ER g) ∗ bigSep T fun t => dutyTok ER t.1 t.2.1 t.2.2) : sProp 𝕄) := by
  refine (Rounds.fund_launch ER (Rd out) hd (fun g _ h => h) T).trans (fupd_mono ?_)
  iintro ⟨%K, -, H⟩
  iexists K
  iexact H

/-- The launch's holdings, sorted into what is plain, the barriers' counters and the ghost state. -/
theorem sorted : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
    ⊢ (iprop((bigSep Finset.univ fun c => plain m c) ∗ ((bigSep Finset.univ fun c : Dev nD => semVal (barCell c) 0) ∗ bigSep Finset.univ G)) : sProp 𝕄) :=
  ((bigSep_mono fun c _ => plain_intro m ρ c).trans (both_split (plain m) fun c => iprop(semVal (barCell c) 0 ∗ G c))).trans
    (BIClass.sep_mono .rfl (both_split (fun c => semVal (barCell c) 0) G))

/-- The counters and the ghost state, as what `fund` takes. -/
theorem to_fund : (iprop((bigSep Finset.univ fun c : Dev nD => semVal (barCell c) 0) ∗ bigSep Finset.univ G) : sProp 𝕄)
    ⊢ iprop((bigSep barCells fun g => semVal g 0) ∗ BI.own (ER (launchOf barCells ownCells allToks))) :=
  BIClass.sep_mono (Entails.of_eq (bars_eq fun g => semVal g 0).symm) (Entails.of_eq bigSep_G)

/-- What `fund` gives, as what every device keeps. -/
theorem of_fund : (iprop((bigSep barCells fun g => atPos ER g 0 ∅ 0) ∗ (bigSep ownCells fun g => openTok ER g)
      ∗ bigSep allToks fun t => dutyTok ER t.1 t.2.1 t.2.2) : sProp 𝕄)
    ⊢ bigSep Finset.univ fun c => kept c :=
  (BIClass.sep_mono (Entails.of_eq (bars_eq fun g => atPos ER g 0 ∅ 0)) (BIClass.sep_mono (Entails.of_eq (owns_eq fun g => openTok ER g)) (Entails.of_eq toks_eq))).trans
    ((BIClass.sep_mono .rfl (both_join _ _)).trans (both_join _ _))

/-- From the launch's holdings to every device's first thread state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (sorted m ρ) $$ H
  icases H with ⟨HB, H⟩
  imod ((to_fund (F := F)).trans (fund (outs m) barCells ownCells cells_disjoint allToks)) $$ [H] with ⟨%K, #Hinv, #Hr, H⟩
  · iexact H
  imodintro
  ihave H := (of_fund (F := F)) $$ H
  iapply (bigSep_with_persistent (R := records (outs m) K) (Φ := fun c => iprop(kept c ∗ plain m c)) fun c _ => T₀_intro m K c)
  isplitr
  · unfold records
    isplitr; · iexact Hinv
    iexact Hr
  iapply (both_join kept (plain m))
  isplitl [H]; · iexact H
  iexact HB

end Cert.KernelIdeal.Exchange

end
-- ==== Proof.Run.lean ====
/- The run of the whole program on the sixteen devices: it terminates, the arguments keep their contents, the result buffer of
   each device holds the blocks sent to it, and every semaphore ends at zero. -/
module

public import proofs.«01_k».proof.Proof.Launch

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The last step. -/
def lastPt : Fin grid0.N := ⟨15, by decide⟩

/-- The result window writes back after the last step. -/
theorem flush4_end (c : Dev nD) : ((cfg0 (adm (F := F) c 0)).win 4).flush lastPt = true := by
  unfold Pipeline.Window.flush
  rw [show decide ((lastPt : Fin grid0.N).val + 1 = grid0.N) = true from rfl]
  rfl

/-- Where the result window's block puts a position. -/
theorem blk4_emb (c : Dev nD) (x : S4096x512.Idx) : (((cfg0 (adm (F := F) c 0)).win 4).blk lastPt).view.emb x = x :=
  ext2 (a := 4096) (b := 512)
    (by show 0 * 4096 + 1 * (x 0).val = (x 0).val; omega)
    (by show 0 * 512 + 1 * (x 1).val = (x 1).val; omega)

theorem arr_write (c : Dev nD) : (dat m c).arrAt 4 grid0.N
    = (((cfg0 (adm (F := F) c 0)).win 4).blk lastPt).view.write (Elt F) ((dat m c).arrAt 4 15) (result m c) Finset.univ :=
  ((dat m c).arrAt_succ (4 : Fin 5) lastPt).trans (if_pos (flush4_end c))

/-- Contents whose block at the last step is `R` are `R`. -/
theorem of_read (c : Dev nD) (W : FVec F S4096x512 .f32) (R : FVec F S4096x512 .f32)
    (h : (((cfg0 (adm (F := F) c 0)).win 4).blk lastPt).view.read (Elt F) W = R) : W = R := by
  refine funext fun (x : S4096x512.Idx) => ?_
  have hx := congrFun h x
  exact (congrArg W (blk4_emb c x).symm).trans hx

/-- After the run the result array holds the result. -/
theorem arr_result (c : Dev nD) : (dat m c).arrAt 4 grid0.N = result m c :=
  (arr_write m c).trans (of_read c _ _ (View.read_write_univ _ _))

def Tₙ (c : Dev nD) : sProp 𝕄 := iprop((dat m c).arrays ((dat m c).arrAt · grid0.N) ∗ semVal (barCell c) 0)

/-- The host's operations before the kernel. -/
def hostSeg (c : Dev nD) : Pipeline.HostSeg (Ix := Unit) (Name := ℕ) (U := UU) (Lvl := ℕ) (pcfgs (F := F)) defs₀ 𝒱₀ L lv :=
  seg0 m 𝒱₀ L lv (fun _ => beside m) c

abbrev items (c : Dev nD) : List (Pipeline.PerCore.Seg (pcfgs (F := F)) adm (pdats m) () (defs₀ (F := F)) 𝒱₀ L lv) :=
  [.host (hostSeg m c), .region (reg m)]

theorem unscoped_eq : ∀ sm : SemLoc sig, sm.isScoped .tc = false → sm = .reg barS := by decide

/-- What every device's memory holds at the end. -/
def AtEnd (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v6) = result m c

theorem atEnd_of (c : Dev nD) (s : MemSt nD τ sig (Elt F))
    (h : ∀ w : Fin 5, s.mem ((spec0 w).arr.view.loc (c : Thread nD τ)) = (dat m c).arrAt w grid0.N) : AtEnd m c s :=
  ⟨(h 0).trans ((dat m c).arrAt_in (0 : Fin 5) rfl _), (h 1).trans ((dat m c).arrAt_in (1 : Fin 5) rfl _),
    (h 2).trans ((dat m c).arrAt_in (2 : Fin 5) rfl _), (h 3).trans ((dat m c).arrAt_in (3 : Fin 5) rfl _), (h 4).trans (arr_result m c)⟩

theorem finish (c : Dev nD) (s' : Phys nD τ sig (Elt F)) :
    (iprop(Tₙ m c ∗ SI s') : sProp 𝕄) ⊢ |={Set.univ}=> iprop(⌜AtEnd m c s'.mem ∧ s'.mem.sem (barCell c) = 0⌝ ∗ SI s') := by
  unfold Tₙ
  iintro ⟨⟨Ha, Hb⟩, HSI⟩
  icombine HSI Hb gives %hb
  ihave H := (Pipeline.PerCore.arrays_read (pcfgs (F := F)) adm (pdats m) (p := 0) arr_whole0 c (share_full c m) ((dat m c).arrAt · grid0.N) s') $$ [Ha HSI]
  · isplitl [Ha]; · iexact Ha
    iexact HSI
  icases H with ⟨%ha, HSI⟩
  imodintro
  isplitr
  · ipureintro
    exact ⟨atEnd_of m c s'.mem ha, by simpa using hb⟩
  iexact HSI

set_option backward.isDefEq.respectTransparency.types false in
/-- The run. -/
theorem run_main : θ_run defs (onTc (τ := τ) (main (F := F))) ⟨m, fun _ => 0, ρ⟩
    (fun r => (∀ c : Dev nD, AtEnd m c r.2) ∧ r.2.sem = fun _ => 0) :=
  Pipeline.PerCore.θ_run_regions_kit_sems (pcfgs (F := F)) adm (pdats m) () cells_inj EP defs₀ 𝒱₀ L lv m ρ main (items m)
    (fun c Q => by
      rw [main_chain c, Pipeline.PerCore.Seg.run_eq_chain]; exact .rfl)
    (fun c => by simp only [items, Pipeline.PerCore.Seg.pipes_host, Pipeline.PerCore.Seg.pipes_region, Pipeline.PerCore.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := fun c => ⟨.rfl, .rfl, by
      show atExit m c ⊢ iprop(Tₙ m c ∗ ∃ W, owes (c : Thread nD τ) (0 : CellTallies nD τ sig Unit) W)
      unfold atExit Tₙ
      iintro ⟨Ha, Hb, HO⟩
      isplitr [HO]
      · isplitl [Ha] <;> iassumption
      · iexact HO⟩)
    (hinit := init m ρ)
    (QY := fun c s => AtEnd m c s ∧ s.sem (barCell c) = 0)
    (hfin := finish m)
    (hQ := fun s h hs => ⟨fun c => (h c).1, sem_eq_zero hs fun c sm hsm => by
      obtain rfl := unscoped_eq sm hsm
      exact (h c).2⟩)

end Cert.KernelIdeal.Exchange

end
-- ==== Proof.Same.lean ====
/- The program read over the machine's floats and the program read over the extended reals are one text: their bodies, their
   tables of bodies and their hosts' lines are equal over any floats, so the run proved of one is the run of the other. -/
module

public import proofs.«01_k».proof.Defs
public import proofs.«01_k».proof.Proof.Gen.Kernel
public import proofs.«01_k».proof.Proof.Gen.KernelIdeal

@[expose] public section

noncomputable section

namespace Cert.Proof

open Idealize.ShloMosaic

variable {F : FTy → Type} [FloatOps F]

/-- One body. -/
theorem body_eq : Cert.Kernel.cc0_body (F := F) = Cert.KernelIdeal.cc0_body (F := F) := rfl

/-- One table of bodies. -/
theorem bodies_eq : Cert.Kernel.defs₀ (F := F) = Cert.KernelIdeal.defs₀ (F := F) :=
  congrArg Defs.onTc (funext fun l => match l with
    | 0 => funext fun ts => match ts with
      | (_, _) => rfl)

/-- One table with the pipeline's bodies. -/
theorem defs_eq : Cert.Kernel.defs (F := F) = Cert.KernelIdeal.defs (F := F) :=
  congrArg (Pipeline.defs (Cert.Kernel.pcfgs (F := F))) bodies_eq

/-- One host program. -/
theorem main_eq : Cert.Kernel.main (F := F) = Cert.KernelIdeal.main (F := F) := rfl

end Cert.Proof

end
-- ==== Proof.Value.lean ====
/- Over the extended reals: the block device `c` ends with is column block `c` of the reference's result. -/
module

public import proofs.«01_k».proof.Proof.Run
public import proofs.«01_k».proof.Proof.Gen.ReferenceIdeal.Value
public import Idealize.ShloMosaic.Lib.Pointwise
public import Idealize.ShloMosaic.Lib.Layout

@[expose] public section

noncomputable section

namespace Cert.KernelIdeal.Exchange

open Idealize.ShloMosaic Idealize.ShloMosaic.TcCoe
open Cert.KernelIdeal.Gen

/-- The product of a device's rows with a column block, scaled, at row `r` and column `l`. -/
theorem pay4_apply (a b : Elt Ideal .f32) (w : FVec Ideal S4096x512 .fp8e5m2) (x : FVec Ideal S256x4096 .fp8e4m3) (j : S256x512.Idx) :
    k0_pay4 (F := Ideal) a b w (k0_pay3 (F := Ideal) x) j = (∑ k : Fin 4096, (x (ix2 (j 0) k) * w (ix2 k (j 1)) : EReal)) * (a * b) := by
  pointwise [k0_pay4, k0_pay3]

theorem pay1_apply (v : FVec Ideal S256x512 .f32) (j : S1x256x512.Idx) : k0_pay1 (F := Ideal) v j = v (ix2 (j 1) (j 2)) := by
  pointwise [k0_pay1]

theorem pay2_apply (v : FVec Ideal S16x256x512 .bf16) (j : S4096x512.Idx) :
    k0_pay2 (F := Ideal) v j = v (ix3 ⟨(j 0).val / 256, by have : (j 0).val < 4096 := (j 0).isLt; omega⟩ ⟨(j 0).val % 256, Nat.mod_lt _ (by decide)⟩ (j 1)) := by
  pointwise [k0_pay2]

theorem ref_apply (x : FVec Ideal ⟨2, ![4096, 4096]⟩ .fp8e4m3) (w : FVec Ideal S4096x8192 .fp8e5m2) (a b : FVec Ideal S1 .f32) (j : S4096x8192.Idx) :
    Cert.ReferenceIdeal.Gen.k0_pay1 (F := Ideal) x w a b j = (∑ k : Fin 4096, (x (ix2 (j 0) k) * w (ix2 k (j 1)) : EReal)) * (a (ix1 0) * b (ix1 0)) := by
  pointwise [Cert.ReferenceIdeal.Gen.k0_pay1]

variable (m : (ℓ : Loc nD τ sig) → Buf (Elt Ideal) ℓ)

/-- The result block of device `c` at a position, from the devices' arguments. -/
theorem result_apply (c : Dev nD) (j : S4096x512.Idx) (s : Dev nD) (r : Fin 256) (hs : s.val * 256 + r.val = (j 0).val) :
    result m c j = (∑ k : Fin 4096, (xOf m s (ix2 r k) * wOf m s (colIdx c (ix2 k (j 1))) : EReal)) * (word (sxOf m s) * word (swOf m s)) := by
  have h0 : (j 0).val / 256 = s.val := by have := r.isLt; omega
  have h1 : (j 0).val % 256 = r.val := by have := r.isLt; omega
  unfold result
  rw [pay2_apply]
  unfold landed outs
  rw [pay1_apply, pay4_apply]
  have es : (⟨(j 0).val / 256, by have : (j 0).val < 4096 := (j 0).isLt; omega⟩ : Fin 16) = s := Fin.ext h0
  have er : (⟨(j 0).val % 256, Nat.mod_lt _ (by decide)⟩ : Fin 256) = r := Fin.ext h1
  rw [es, er]
  rfl

end Cert.KernelIdeal.Exchange

namespace Cert.Proof

open Idealize.ShloMosaic Idealize.ShloMosaic.TcCoe
open Cert.KernelIdeal.Exchange

/-- When the devices' arguments are the reference's, cut as the claim cuts them, each device's result is its column block of
    the reference's result. -/
theorem result_block (m : (ℓ : Loc Cert.KernelIdeal.nD Cert.KernelIdeal.τ Cert.KernelIdeal.sig) → Buf (Elt Ideal) ℓ)
    (x : FVec Ideal ⟨2, ![4096, 4096]⟩ .fp8e4m3) (w : FVec Ideal ⟨2, ![4096, 8192]⟩ .fp8e5m2) (a b : FVec Ideal ⟨1, ![1]⟩ .f32)
    (hx : ∀ c, xOf m c = Layout.block ⟨2, ![256, 4096]⟩ ⟨2, ![4096, 4096]⟩ 0 16 c x) (hw : ∀ c, wOf m c = w)
    (ha : ∀ c, sxOf m c = a) (hb : ∀ c, swOf m c = b) (c : Dev Cert.KernelIdeal.nD) :
    result m c = Layout.block ⟨2, ![4096, 512]⟩ ⟨2, ![4096, 8192]⟩ 1 16 c (Cert.ReferenceIdeal.Gen.k0_pay1 (F := Ideal) x w a b) := by
  refine funext fun (j : Cert.KernelIdeal.S4096x512.Idx) => ?_
  have hj : (j 0).val < 4096 := (j 0).isLt
  rw [result_apply m c j ⟨(j 0).val / 256, by show _ < 16; omega⟩ ⟨(j 0).val % 256, Nat.mod_lt _ (by decide)⟩
    (by show (j 0).val / 256 * 256 + (j 0).val % 256 = (j 0).val; omega), Layout.block_apply, ref_apply, hx, hw, ha, hb]
  refine congr (congrArg _ (Finset.sum_congr rfl fun k _ => congr (congrArg _ ?_) ?_)) ?_
  · rw [Layout.block_apply]
    refine congrArg x (ext2 (a := 4096) (b := 4096) ?_ ?_)
    · show (j 0).val / 256 * 256 + (j 0).val % 256 = (j 0).val
      omega
    · rfl
  · exact congrArg w (ext2 (a := 4096) (b := 8192) rfl rfl)
  · exact congr (congrArg _ (congrArg a (ext1 (a := 1) rfl))) (congrArg b (ext1 (a := 1) rfl))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Exchange

/-- The run over the machine's own floats: the arguments are kept and every semaphore is at zero. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3))
        ∧ r.2.sem = fun _ => 0) :=
  (θ_run Cert.KernelIdeal.defs _ _).mono
    (fun _ h => ⟨fun c => ⟨(h.1 c).1, (h.1 c).2.1, (h.1 c).2.2.1, (h.1 c).2.2.2.1⟩, h.2⟩) (run_main (F := Bits) m ρ)

/-- The kernel as printed runs, keeps its arguments and leaves every semaphore at zero. -/
theorem frame_kernel : Cert.quiescent_Kernel := fun m ρ _ => by
  rw [defs_eq (F := Bits)]
  exact frame_bits m ρ

/-- The same of the kernel read over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- The reference runs, keeps its arguments and leaves every semaphore at zero. -/
theorem frame_reference : Cert.quiescent_ReferenceIdeal := fun m ρ _ => Cert.ReferenceIdeal.Gen.frame m ρ

/-- Every device's result is its column block of the reference's result. -/
theorem value : Cert.algebraic_KernelIdeal_ReferenceIdeal := fun m ρ m' ρ' _ hargs =>
  ⟨_, (θ_run Cert.KernelIdeal.defs _ _).mono
      (fun _ h c => ⟨(h.1 c).2.2.2.2.trans (result_block m _ _ _ _ (fun d => (hargs d).1) (fun d => (hargs d).2.1)
          (fun d => (hargs d).2.2.1) (fun d => (hargs d).2.2.2) c),
        (h.1 c).1, (h.1 c).2.1, (h.1 c).2.2.1, (h.1 c).2.2.2.1⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
